-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x10000x32 : Shape := ⟨3, ![4, 10000, 32]⟩
abbrev S10000x10000 : Shape := ⟨2, ![10000, 10000]⟩
abbrev S4x3x32x32 : Shape := ⟨4, ![4, 3, 32, 32]⟩
abbrev S4x32 : Shape := ⟨2, ![4, 32]⟩
abbrev S_ : Shape := ⟨0, ![]⟩
abbrev S4x1x32x32 : Shape := ⟨4, ![4, 1, 32, 32]⟩
abbrev S4x32x32 : Shape := ⟨3, ![4, 32, 32]⟩

class Facts : Prop where
  bcast_S_S4x10000x32 : S_.BroadcastsInDim S4x10000x32 (![] : Fin 0 → Fin S4x10000x32.rank)
  slices_S4x3x32x32_S4x1x32x32_0_2_0_0 : S4x3x32x32.Slices ![0, 2, 0, 0] S4x1x32x32
  shapeCasts_S4x1x32x32_S4x32x32 : S4x1x32x32.ShapeCasts S4x32x32
  bcast_S_S4x32x32 : S_.BroadcastsInDim S4x32x32 (![] : Fin 0 → Fin S4x32x32.rank)

variable [Facts]

def fn {F : FTy → Type} [FloatOps F] (main_arg0 : FVec F S4x10000x32 .f32) (main_arg1 : FVec F S10000x10000 .f32) (main_arg2 : FVec F S4x3x32x32 .f32) (main_arg3 : FVec F S4x32 .f32) : IVec S4x10000x32 1 × IVec S4x32x32 1 :=
  let main_v0 : FVec F S4x10000x32 .f32 := Host.absf main_arg0
  let main_cst : FVec F S_ .f32 := constant S_ .f32 0x7F800000#32
  let main_v1 : FVec F S4x10000x32 .f32 := broadcastInDim S4x10000x32 ![] bcast_S_S4x10000x32 main_cst
  let main_v2 : IVec S4x10000x32 1 := cmpf .olt main_v0 main_v1
  let main_v3 : FVec F S4x1x32x32 .f32 := (extractStridedSlice S4x1x32x32 ![0, 2, 0, 0] · slices_S4x3x32x32_S4x1x32x32_0_2_0_0) main_arg2
  let main_v4 : FVec F S4x32x32 .f32 := shapeCast S4x32x32 main_v3 shapeCasts_S4x1x32x32_S4x32x32
  let main_v5 : FVec F S4x32x32 .f32 := Host.absf main_v4
  let main_cst_0 : FVec F S_ .f32 := constant S_ .f32 0x7F800000#32
  let main_v6 : FVec F S4x32x32 .f32 := broadcastInDim S4x32x32 ![] bcast_S_S4x32x32 main_cst_0
  let main_v7 : IVec S4x32x32 1 := cmpf .olt main_v5 main_v6
  (main_v2, main_v7)
-- ==== Kernel.lean ====
abbrev S4x10000x32 : Shape := ⟨3, ![4, 10000, 32]⟩
abbrev S10000x10000 : Shape := ⟨2, ![10000, 10000]⟩
abbrev S4x3x32x32 : Shape := ⟨4, ![4, 3, 32, 32]⟩
abbrev S4x32 : Shape := ⟨2, ![4, 32]⟩
abbrev S48 : Shape := ⟨1, ![48]⟩
abbrev S10000x4x32 : Shape := ⟨3, ![10000, 4, 32]⟩
abbrev S10000x128 : Shape := ⟨2, ![10000, 128]⟩
abbrev S_ : Shape := ⟨0, ![]⟩
abbrev S10240x128 : Shape := ⟨2, ![10240, 128]⟩
abbrev S1 : Shape := ⟨1, ![1]⟩
abbrev S8x1280x128 : Shape := ⟨3, ![8, 1280, 128]⟩
abbrev S4x4 : Shape := ⟨2, ![4, 4]⟩
abbrev S4x4x1x1x1 : Shape := ⟨5, ![4, 4, 1, 1, 1]⟩
abbrev S4x1x3x32x32 : Shape := ⟨5, ![4, 1, 3, 32, 32]⟩
abbrev S4x4x3x32x32 : Shape := ⟨5, ![4, 4, 3, 32, 32]⟩
abbrev S3x4x32x4x32 : Shape := ⟨5, ![3, 4, 32, 4, 32]⟩
abbrev S3x128x128 : Shape := ⟨3, ![3, 128, 128]⟩
abbrev S1x128 : Shape := ⟨2, ![1, 128]⟩
abbrev S1280x2560 : Shape := ⟨2, ![1280, 2560]⟩
abbrev S1280x128 : Shape := ⟨2, ![1280, 128]⟩
abbrev S1280x1280 : Shape := ⟨2, ![1280, 1280]⟩
abbrev S1x1280x128 : Shape := ⟨3, ![1, 1280, 128]⟩
abbrev S1280x1 : Shape := ⟨2, ![1280, 1]⟩
abbrev S1x128x128 : Shape := ⟨3, ![1, 128, 128]⟩
abbrev S128x128 : Shape := ⟨2, ![128, 128]⟩
abbrev S1280x1040 : Shape := ⟨2, ![1280, 1040]⟩
abbrev S1x1040x128 : Shape := ⟨3, ![1, 1040, 128]⟩
abbrev S1040x128 : Shape := ⟨2, ![1040, 128]⟩

abbrev nBuf : Space → Nat
  | .hbm => 30
  | .vmem => 12
  | .smem => 6
  | _ => 0

abbrev bufTy : (tb : Table) → Fin (tcTables nBuf tb) → BufTy
  | .hbm, ⟨0, _⟩ => ⟨S4x10000x32, .f32⟩
  | .hbm, ⟨1, _⟩ => ⟨S10000x10000, .f32⟩
  | .hbm, ⟨2, _⟩ => ⟨S4x3x32x32, .f32⟩
  | .hbm, ⟨3, _⟩ => ⟨S4x32, .f32⟩
  | .hbm, ⟨4, _⟩ => ⟨S10000x4x32, .f32⟩
  | .hbm, ⟨5, _⟩ => ⟨S10000x128, .f32⟩
  | .hbm, ⟨6, _⟩ => ⟨S_, .f32⟩
  | .hbm, ⟨7, _⟩ => ⟨S10240x128, .f32⟩
  | .hbm, ⟨8, _⟩ => ⟨S_, .i32⟩
  | .hbm, ⟨9, _⟩ => ⟨S1, .i32⟩
  | .hbm, ⟨10, _⟩ => ⟨S10240x128, .f32⟩
  | .hbm, ⟨11, _⟩ => ⟨S8x1280x128, .f32⟩
  | .hbm, ⟨12, _⟩ => ⟨S4x4, .i32⟩
  | .hbm, ⟨13, _⟩ => ⟨S4x4, .i32⟩
  | .hbm, ⟨14, _⟩ => ⟨S_, .i32⟩
  | .hbm, ⟨15, _⟩ => ⟨S4x4, .i32⟩
  | .hbm, ⟨16, _⟩ => ⟨S4x4, .i32⟩
  | .hbm, ⟨17, _⟩ => ⟨S4x4, .i1⟩
  | .hbm, ⟨18, _⟩ => ⟨S4x4, .f32⟩
  | .hbm, ⟨19, _⟩ => ⟨S4x4x1x1x1, .f32⟩
  | .hbm, ⟨20, _⟩ => ⟨S4x1x3x32x32, .f32⟩
  | .hbm, ⟨21, _⟩ => ⟨S4x4x3x32x32, .f32⟩
  | .hbm, ⟨22, _⟩ => ⟨S4x4x3x32x32, .f32⟩
  | .hbm, ⟨23, _⟩ => ⟨S4x4x3x32x32, .f32⟩
  | .hbm, ⟨24, _⟩ => ⟨S3x4x32x4x32, .f32⟩
  | .hbm, ⟨25, _⟩ => ⟨S3x128x128, .f32⟩
  | .hbm, ⟨26, _⟩ => ⟨S1x128, .f32⟩
  | .hbm, ⟨27, _⟩ => ⟨S10000x128, .f32⟩
  | .hbm, ⟨28, _⟩ => ⟨S10000x4x32, .f32⟩
  | .hbm, ⟨29, _⟩ => ⟨S4x10000x32, .f32⟩
  | .local _ .vmem, ⟨0, _⟩ => ⟨S1280x2560, .f32⟩
  | .local _ .vmem, ⟨1, _⟩ => ⟨S1280x2560, .f32⟩
  | .local _ .vmem, ⟨2, _⟩ => ⟨S8x1280x128, .f32⟩
  | .local _ .vmem, ⟨3, _⟩ => ⟨S3x128x128, .f32⟩
  | .local _ .vmem, ⟨4, _⟩ => ⟨S1x128, .f32⟩
  | .local _ .vmem, ⟨5, _⟩ => ⟨S1280x128, .f32⟩
  | .local _ .vmem, ⟨6, _⟩ => ⟨S1280x128, .f32⟩
  | .local _ .vmem, ⟨7, _⟩ => ⟨S8x1280x128, .f32⟩
  | .local _ .vmem, ⟨8, _⟩ => ⟨S8x1280x128, .f32⟩
  | .local _ .vmem, ⟨9, _⟩ => ⟨S1280x128, .f32⟩
  | .local _ .vmem, ⟨10, _⟩ => ⟨S1280x128, .f32⟩
  | .local _ .vmem, ⟨11, _⟩ => ⟨S1280x128, .f32⟩
  | .local _ .smem, ⟨0, _⟩ => ⟨S48, .i32⟩
  | .local _ .smem, ⟨1, _⟩ => ⟨S48, .i32⟩
  | .local _ .smem, ⟨2, _⟩ => ⟨S48, .i32⟩
  | .local _ .smem, ⟨3, _⟩ => ⟨S48, .i32⟩
  | .local _ .smem, ⟨4, _⟩ => ⟨S48, .i32⟩
  | .local _ .smem, ⟨5, _⟩ => ⟨S48, .i32⟩
  | _, _ => ⟨S4x10000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_c_5 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_c_6 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_call0_v17 : Ref sig .tc := ⟨.hbm, 24, rfl⟩
abbrev main_call0_v18 : Ref sig .tc := ⟨.hbm, 25, rfl⟩
abbrev main_call0_v19 : Ref sig .tc := ⟨.hbm, 26, rfl⟩
abbrev main_call0_v20 : Ref sig .tc := ⟨.hbm, 27, rfl⟩
abbrev main_call0_v21 : Ref sig .tc := ⟨.hbm, 28, rfl⟩
abbrev main_v0 : Ref sig .tc := ⟨.hbm, 29, rfl⟩
abbrev main_call0_c : Ref sig .tc := ⟨.smem, 0, rfl⟩
abbrev main_call0_c_0 : Ref sig .tc := ⟨.smem, 1, rfl⟩
abbrev main_call0_c_1 : Ref sig .tc := ⟨.smem, 2, rfl⟩
abbrev main_call0_c_2 : Ref sig .tc := ⟨.smem, 3, rfl⟩
abbrev main_call0_c_3 : Ref sig .tc := ⟨.smem, 4, rfl⟩
abbrev main_call0_c_4 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![48], ![false]⟩

abbrev pre0 : Pipeline.Prefetch sig := ⟨6, ![main_call0_c.idx, main_call0_c_0.idx, main_call0_c_1.idx, main_call0_c_2.idx, main_call0_c_3.idx, main_call0_c_4.idx], fun | 0 => main_call0_c.names | 1 => main_call0_c_0.names | 2 => main_call0_c_1.names | 3 => main_call0_c_2.names | 4 => main_call0_c_3.names | 5 => main_call0_c_4.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v1 : Index := Scalar.indexCast arg0
  ![v1.toNat]
def k0_cond2 (i : grid0.Coords) : BitVec 1 :=
  let arg0 : BitVec 32 := BitVec.ofNat 32 (i 0).val
  let c32_i32 : BitVec 32 := 32#32
  let v0 : BitVec 1 := Scalar.cmpi .slt arg0 c32_i32
  let v26 : BitVec 32 := Scalar.extui v0
  let c0_i32_7 : BitVec 32 := 0#32
  let v27 : BitVec 1 := Scalar.cmpi .ne v26 c0_i32_7
  v27

def k0_off2 (v4 : BitVec 32) : Fin 3 → Nat :=
  let c2_i32 : BitVec 32 := 2#32
  let v15 : BitVec 32 := Scalar.muli c2_i32 v4
  let v35 : Index := Scalar.indexCast v15
  let c0_13 : Index := 0#32
  let c0_14 : Index := 0#32
  ![v35.toNat, 0, 0]
def k0_cond1 (v4 : BitVec 32) : BitVec 1 :=
  let c3_i32 : BitVec 32 := 3#32
  let v18 : BitVec 1 := Scalar.cmpi .slt v4 c3_i32
  let v19 : BitVec 32 := Scalar.extui v18
  let c0_i32 : BitVec 32 := 0#32
  let v20 : BitVec 1 := Scalar.cmpi .ne v19 c0_i32
  v20

def k0_off3 (v4 : BitVec 32) : Fin 3 → Nat :=
  let c2_i32_1 : BitVec 32 := 2#32
  let v16 : BitVec 32 := Scalar.muli c2_i32_1 v4
  let c1_i32_2 : BitVec 32 := 1#32
  let v17 : BitVec 32 := Scalar.addi v16 c1_i32_2
  let v39 : Index := Scalar.indexCast v17
  let c0_15 : Index := 0#32
  let c0_16 : Index := 0#32
  ![v39.toNat, 0, 0]
def k0_off4 (v4 : BitVec 32) : Fin 3 → Nat :=
  let c2_i32 : BitVec 32 := 2#32
  let v15 : BitVec 32 := Scalar.muli c2_i32 v4
  let v58 : Index := Scalar.indexCast v15
  let c0_26 : Index := 0#32
  let c0_27 : Index := 0#32
  ![v58.toNat, 0, 0]
def k0_cond4 (v2 : BitVec 32) (v4 : BitVec 32) : BitVec 1 :=
  let c2_i32 : BitVec 32 := 2#32
  let v15 : BitVec 32 := Scalar.muli c2_i32 v4
  let v48 : BitVec 1 := Scalar.cmpi .slt v15 v2
  let v49 : BitVec 32 := Scalar.extui v48
  let c0_i32_20 : BitVec 32 := 0#32
  let v50 : BitVec 1 := Scalar.cmpi .ne v49 c0_i32_20
  v50

def k0_off5 (v4 : BitVec 32) : Fin 3 → Nat :=
  let c2_i32_1 : BitVec 32 := 2#32
  let v16 : BitVec 32 := Scalar.muli c2_i32_1 v4
  let c1_i32_2 : BitVec 32 := 1#32
  let v17 : BitVec 32 := Scalar.addi v16 c1_i32_2
  let v58 : Index := Scalar.indexCast v17
  let c0_26 : Index := 0#32
  let c0_27 : Index := 0#32
  ![v58.toNat, 0, 0]
def k0_cond5 (v2 : BitVec 32) (v4 : BitVec 32) : BitVec 1 :=
  let c2_i32_1 : BitVec 32 := 2#32
  let v16 : BitVec 32 := Scalar.muli c2_i32_1 v4
  let c1_i32_2 : BitVec 32 := 1#32
  let v17 : BitVec 32 := Scalar.addi v16 c1_i32_2
  let v51 : BitVec 1 := Scalar.cmpi .slt v17 v2
  let v52 : BitVec 32 := Scalar.extui v51
  let c0_i32_21 : BitVec 32 := 0#32
  let v53 : BitVec 1 := Scalar.cmpi .ne v52 c0_i32_21
  v53

def k0_off6 (v2 : BitVec 32) : Fin 3 → Nat :=
  let v68 : Index := Scalar.indexCast v2
  let c0_27 : Index := 0#32
  let c0_28 : Index := 0#32
  ![v68.toNat, 0, 0]
def k0_cond6 (v6 : BitVec 32) : BitVec 1 :=
  let c3_i32_22 : BitVec 32 := 3#32
  let v54 : BitVec 1 := Scalar.cmpi .eq v6 c3_i32_22
  let v55 : BitVec 32 := Scalar.extui v54
  let c0_i32_23 : BitVec 32 := 0#32
  let v56 : BitVec 1 := Scalar.cmpi .ne v55 c0_i32_23
  v56

def k0_off7 (v2 : BitVec 32) : Fin 3 → Nat :=
  let v104 : Index := Scalar.indexCast v2
  let c0_50 : Index := 0#32
  let c0_51 : Index := 0#32
  ![v104.toNat, 0, 0]
def k0_cond7 (v2 : BitVec 32) : BitVec 1 :=
  let c2_i32_29 : BitVec 32 := 2#32
  let c0_i32_30 : BitVec 32 := 0#32
  let v72 : BitVec 1 := Scalar.cmpi .eq c2_i32_29 c0_i32_30
  let c1_i32_31 : BitVec 32 := 1#32
  let v73 : BitVec 32 := Scalar.select v72 c1_i32_31 c2_i32_29
  let v74 : BitVec 32 := Scalar.remsi v2 v73
  let c0_i32_33 : BitVec 32 := 0#32
  let v76 : BitVec 1 := Scalar.cmpi .slt v74 c0_i32_33
  let c0_i32_34 : BitVec 32 := 0#32
  let v77 : BitVec 1 := Scalar.cmpi .slt v73 c0_i32_34
  let v78 : BitVec 1 := Scalar.xori v76 v77
  let c0_i32_32 : BitVec 32 := 0#32
  let v75 : BitVec 1 := Scalar.cmpi .ne v74 c0_i32_32
  let v79 : BitVec 1 := Scalar.andi v78 v75
  let v80 : BitVec 32 := Scalar.addi v74 v73
  let v81 : BitVec 32 := Scalar.select v79 v80 v74
  let c0_i32_35 : BitVec 32 := 0#32
  let v82 : BitVec 1 := Scalar.cmpi .eq v81 c0_i32_35
  let v83 : BitVec 32 := Scalar.extui v82
  let c0_i32_36 : BitVec 32 := 0#32
  let v84 : BitVec 1 := Scalar.cmpi .ne v83 c0_i32_36
  v84

def k0_off8 (v2 : BitVec 32) : Fin 3 → Nat :=
  let v104 : Index := Scalar.indexCast v2
  let c0_50 : Index := 0#32
  let c0_51 : Index := 0#32
  ![v104.toNat, 0, 0]
def k0_cond8 (v2 : BitVec 32) : BitVec 1 :=
  let c2_i32_37 : BitVec 32 := 2#32
  let c0_i32_38 : BitVec 32 := 0#32
  let v85 : BitVec 1 := Scalar.cmpi .eq c2_i32_37 c0_i32_38
  let c1_i32_39 : BitVec 32 := 1#32
  let v86 : BitVec 32 := Scalar.select v85 c1_i32_39 c2_i32_37
  let v87 : BitVec 32 := Scalar.remsi v2 v86
  let c0_i32_41 : BitVec 32 := 0#32
  let v89 : BitVec 1 := Scalar.cmpi .slt v87 c0_i32_41
  let c0_i32_42 : BitVec 32 := 0#32
  let v90 : BitVec 1 := Scalar.cmpi .slt v86 c0_i32_42
  let v91 : BitVec 1 := Scalar.xori v89 v90
  let c0_i32_40 : BitVec 32 := 0#32
  let v88 : BitVec 1 := Scalar.cmpi .ne v87 c0_i32_40
  let v92 : BitVec 1 := Scalar.andi v91 v88
  let v93 : BitVec 32 := Scalar.addi v87 v86
  let v94 : BitVec 32 := Scalar.select v92 v93 v87
  let c1_i32_43 : BitVec 32 := 1#32
  let v95 : BitVec 1 := Scalar.cmpi .eq v94 c1_i32_43
  let v96 : BitVec 32 := Scalar.extui v95
  let c0_i32_44 : BitVec 32 := 0#32
  let v97 : BitVec 1 := Scalar.cmpi .ne v96 c0_i32_44
  v97

def k0_off9 (v2 : BitVec 32) : Fin 3 → Nat :=
  let v101 : Index := Scalar.indexCast v2
  let c0_47 : Index := 0#32
  let c0_48 : Index := 0#32
  ![v101.toNat, 0, 0]
def k0_cond9 (v2 : BitVec 32) : BitVec 1 :=
  let c7_i32_45 : BitVec 32 := 7#32
  let v98 : BitVec 1 := Scalar.cmpi .eq v2 c7_i32_45
  let v99 : BitVec 32 := Scalar.extui v98
  let c0_i32_46 : BitVec 32 := 0#32
  let v100 : BitVec 1 := Scalar.cmpi .ne v99 c0_i32_46
  v100

def k0_off10 (v8 : BitVec 32) : Fin 3 → Nat :=
  let v110 : Index := Scalar.indexCast v8
  let c0_56 : Index := 0#32
  let c0_57 : Index := 0#32
  ![v110.toNat, 0, 0]

def k0_cond10 (i : grid0.Coords) : BitVec 1 :=
  let arg0 : BitVec 32 := BitVec.ofNat 32 (i 0).val
  let c32_i32 : BitVec 32 := 32#32
  let v0 : BitVec 1 := Scalar.cmpi .slt arg0 c32_i32
  let v_true : BitVec 1 := 1#1
  let v28 : BitVec 1 := Scalar.xori v0 v_true
  let v29 : BitVec 32 := Scalar.extui v28
  let c0_i32_8 : BitVec 32 := 0#32
  let v30 : BitVec 1 := Scalar.cmpi .ne v29 c0_i32_8
  v30

def k0_off11 (v8 : BitVec 32) : Fin 3 → Nat :=
  let v41 : Index := Scalar.indexCast v8
  let c0_13 : Index := 0#32
  let c0_14 : Index := 0#32
  ![v41.toNat, 0, 0]
def k0_cond11 (v13 : BitVec 32) : BitVec 1 :=
  let c1_i32_0 : BitVec 32 := 1#32
  let v14 : BitVec 1 := Scalar.cmpi .eq v13 c1_i32_0
  let v31 : BitVec 32 := Scalar.extui v14
  let c0_i32_9 : BitVec 32 := 0#32
  let v32 : BitVec 1 := Scalar.cmpi .ne v31 c0_i32_9
  v32

def k0_off12 (v4 : BitVec 32) : Fin 3 → Nat :=
  let c2_i32 : BitVec 32 := 2#32
  let v15 : BitVec 32 := Scalar.muli c2_i32 v4
  let v42 : Index := Scalar.indexCast v15
  let c0_15 : Index := 0#32
  let c0_16 : Index := 0#32
  ![v42.toNat, 0, 0]
def k0_cond12 (v2 : BitVec 32) (v4 : BitVec 32) : BitVec 1 :=
  let c2_i32 : BitVec 32 := 2#32
  let v15 : BitVec 32 := Scalar.muli c2_i32 v4
  let v33 : BitVec 1 := Scalar.cmpi .sgt v15 v2
  let v34 : BitVec 32 := Scalar.extui v33
  let c0_i32_10 : BitVec 32 := 0#32
  let v35 : BitVec 1 := Scalar.cmpi .ne v34 c0_i32_10
  v35

def k0_off13 (v4 : BitVec 32) : Fin 3 → Nat :=
  let c2_i32_1 : BitVec 32 := 2#32
  let v16 : BitVec 32 := Scalar.muli c2_i32_1 v4
  let c1_i32_2 : BitVec 32 := 1#32
  let v17 : BitVec 32 := Scalar.addi v16 c1_i32_2
  let v42 : Index := Scalar.indexCast v17
  let c0_15 : Index := 0#32
  let c0_16 : Index := 0#32
  ![v42.toNat, 0, 0]
def k0_cond13 (v2 : BitVec 32) (v4 : BitVec 32) : BitVec 1 :=
  let c2_i32_1 : BitVec 32 := 2#32
  let v16 : BitVec 32 := Scalar.muli c2_i32_1 v4
  let c1_i32_2 : BitVec 32 := 1#32
  let v17 : BitVec 32 := Scalar.addi v16 c1_i32_2
  let v36 : BitVec 1 := Scalar.cmpi .sgt v17 v2
  let v37 : BitVec 32 := Scalar.extui v36
  let c0_i32_11 : BitVec 32 := 0#32
  let v38 : BitVec 1 := Scalar.cmpi .ne v37 c0_i32_11
  v38

def k0_off14 (v8 : BitVec 32) : Fin 3 → Nat :=
  let v41 : Index := Scalar.indexCast v8
  let c0_13 : Index := 0#32
  let c0_14 : Index := 0#32
  ![v41.toNat, 0, 0]
def k0_cond14 (v10 : BitVec 32) : BitVec 1 :=
  let c1_i32 : BitVec 32 := 1#32
  let v11 : BitVec 1 := Scalar.cmpi .eq v10 c1_i32
  let v39 : BitVec 32 := Scalar.extui v11
  let c0_i32_12 : BitVec 32 := 0#32
  let v40 : BitVec 1 := Scalar.cmpi .ne v39 c0_i32_12
  v40

def k0_cond16 (i : grid0.Coords) : BitVec 1 :=
  let arg0 : BitVec 32 := BitVec.ofNat 32 (i 0).val
  let c32_i32 : BitVec 32 := 32#32
  let v0 : BitVec 1 := Scalar.cmpi .slt arg0 c32_i32
  let v26 : BitVec 32 := Scalar.extui v0
  let c0_i32_7 : BitVec 32 := 0#32
  let v27 : BitVec 1 := Scalar.cmpi .ne v26 c0_i32_7
  v27

def k0_off15 (v4 : BitVec 32) : Fin 3 → Nat :=
  let c2_i32 : BitVec 32 := 2#32
  let v15 : BitVec 32 := Scalar.muli c2_i32 v4
  let v35 : Index := Scalar.indexCast v15
  let c0_13 : Index := 0#32
  let c0_14 : Index := 0#32
  ![v35.toNat, 0, 0]
def k0_cond15 (v4 : BitVec 32) : BitVec 1 :=
  let c3_i32_3 : BitVec 32 := 3#32
  let v21 : BitVec 1 := Scalar.cmpi .eq v4 c3_i32_3
  let v22 : BitVec 32 := Scalar.extui v21
  let c0_i32_4 : BitVec 32 := 0#32
  let v23 : BitVec 1 := Scalar.cmpi .ne v22 c0_i32_4
  v23

def k0_off16 (v4 : BitVec 32) : Fin 3 → Nat :=
  let c2_i32_1 : BitVec 32 := 2#32
  let v16 : BitVec 32 := Scalar.muli c2_i32_1 v4
  let c1_i32_2 : BitVec 32 := 1#32
  let v17 : BitVec 32 := Scalar.addi v16 c1_i32_2
  let v39 : Index := Scalar.indexCast v17
  let c0_15 : Index := 0#32
  let c0_16 : Index := 0#32
  ![v39.toNat, 0, 0]
def k0_off17 (v4 : BitVec 32) : Fin 3 → Nat :=
  let c2_i32 : BitVec 32 := 2#32
  let v15 : BitVec 32 := Scalar.muli c2_i32 v4
  let v58 : Index := Scalar.indexCast v15
  let c0_26 : Index := 0#32
  let c0_27 : Index := 0#32
  ![v58.toNat, 0, 0]
def k0_cond18 (v2 : BitVec 32) (v4 : BitVec 32) : BitVec 1 :=
  let c2_i32 : BitVec 32 := 2#32
  let v15 : BitVec 32 := Scalar.muli c2_i32 v4
  let v48 : BitVec 1 := Scalar.cmpi .slt v15 v2
  let v49 : BitVec 32 := Scalar.extui v48
  let c0_i32_20 : BitVec 32 := 0#32
  let v50 : BitVec 1 := Scalar.cmpi .ne v49 c0_i32_20
  v50

def k0_off18 (v4 : BitVec 32) : Fin 3 → Nat :=
  let c2_i32_1 : BitVec 32 := 2#32
  let v16 : BitVec 32 := Scalar.muli c2_i32_1 v4
  let c1_i32_2 : BitVec 32 := 1#32
  let v17 : BitVec 32 := Scalar.addi v16 c1_i32_2
  let v58 : Index := Scalar.indexCast v17
  let c0_26 : Index := 0#32
  let c0_27 : Index := 0#32
  ![v58.toNat, 0, 0]
def k0_cond19 (v2 : BitVec 32) (v4 : BitVec 32) : BitVec 1 :=
  let c2_i32_1 : BitVec 32 := 2#32
  let v16 : BitVec 32 := Scalar.muli c2_i32_1 v4
  let c1_i32_2 : BitVec 32 := 1#32
  let v17 : BitVec 32 := Scalar.addi v16 c1_i32_2
  let v51 : BitVec 1 := Scalar.cmpi .slt v17 v2
  let v52 : BitVec 32 := Scalar.extui v51
  let c0_i32_21 : BitVec 32 := 0#32
  let v53 : BitVec 1 := Scalar.cmpi .ne v52 c0_i32_21
  v53

def k0_off19 (v2 : BitVec 32) : Fin 3 → Nat :=
  let v68 : Index := Scalar.indexCast v2
  let c0_27 : Index := 0#32
  let c0_28 : Index := 0#32
  ![v68.toNat, 0, 0]
def k0_cond20 (v6 : BitVec 32) : BitVec 1 :=
  let c3_i32_22 : BitVec 32 := 3#32
  let v54 : BitVec 1 := Scalar.cmpi .eq v6 c3_i32_22
  let v55 : BitVec 32 := Scalar.extui v54
  let c0_i32_23 : BitVec 32 := 0#32
  let v56 : BitVec 1 := Scalar.cmpi .ne v55 c0_i32_23
  v56

def k0_off20 (v2 : BitVec 32) : Fin 3 → Nat :=
  let v104 : Index := Scalar.indexCast v2
  let c0_50 : Index := 0#32
  let c0_51 : Index := 0#32
  ![v104.toNat, 0, 0]
def k0_cond21 (v2 : BitVec 32) : BitVec 1 :=
  let c2_i32_29 : BitVec 32 := 2#32
  let c0_i32_30 : BitVec 32 := 0#32
  let v72 : BitVec 1 := Scalar.cmpi .eq c2_i32_29 c0_i32_30
  let c1_i32_31 : BitVec 32 := 1#32
  let v73 : BitVec 32 := Scalar.select v72 c1_i32_31 c2_i32_29
  let v74 : BitVec 32 := Scalar.remsi v2 v73
  let c0_i32_33 : BitVec 32 := 0#32
  let v76 : BitVec 1 := Scalar.cmpi .slt v74 c0_i32_33
  let c0_i32_34 : BitVec 32 := 0#32
  let v77 : BitVec 1 := Scalar.cmpi .slt v73 c0_i32_34
  let v78 : BitVec 1 := Scalar.xori v76 v77
  let c0_i32_32 : BitVec 32 := 0#32
  let v75 : BitVec 1 := Scalar.cmpi .ne v74 c0_i32_32
  let v79 : BitVec 1 := Scalar.andi v78 v75
  let v80 : BitVec 32 := Scalar.addi v74 v73
  let v81 : BitVec 32 := Scalar.select v79 v80 v74
  let c0_i32_35 : BitVec 32 := 0#32
  let v82 : BitVec 1 := Scalar.cmpi .eq v81 c0_i32_35
  let v83 : BitVec 32 := Scalar.extui v82
  let c0_i32_36 : BitVec 32 := 0#32
  let v84 : BitVec 1 := Scalar.cmpi .ne v83 c0_i32_36
  v84

def k0_off21 (v2 : BitVec 32) : Fin 3 → Nat :=
  let v105 : Index := Scalar.indexCast v2
  let c0_50 : Index := 0#32
  let c0_51 : Index := 0#32
  ![v105.toNat, 0, 0]
def k0_cond22 (v2 : BitVec 32) : BitVec 1 :=
  let c2_i32_37 : BitVec 32 := 2#32
  let c0_i32_38 : BitVec 32 := 0#32
  let v85 : BitVec 1 := Scalar.cmpi .eq c2_i32_37 c0_i32_38
  let c1_i32_39 : BitVec 32 := 1#32
  let v86 : BitVec 32 := Scalar.select v85 c1_i32_39 c2_i32_37
  let v87 : BitVec 32 := Scalar.remsi v2 v86
  let c0_i32_41 : BitVec 32 := 0#32
  let v89 : BitVec 1 := Scalar.cmpi .slt v87 c0_i32_41
  let c0_i32_42 : BitVec 32 := 0#32
  let v90 : BitVec 1 := Scalar.cmpi .slt v86 c0_i32_42
  let v91 : BitVec 1 := Scalar.xori v89 v90
  let c0_i32_40 : BitVec 32 := 0#32
  let v88 : BitVec 1 := Scalar.cmpi .ne v87 c0_i32_40
  let v92 : BitVec 1 := Scalar.andi v91 v88
  let v93 : BitVec 32 := Scalar.addi v87 v86
  let v94 : BitVec 32 := Scalar.select v92 v93 v87
  let c1_i32_43 : BitVec 32 := 1#32
  let v95 : BitVec 1 := Scalar.cmpi .eq v94 c1_i32_43
  let v96 : BitVec 32 := Scalar.extui v95
  let c0_i32_44 : BitVec 32 := 0#32
  let v97 : BitVec 1 := Scalar.cmpi .ne v96 c0_i32_44
  v97

def k0_off22 (v2 : BitVec 32) : Fin 3 → Nat :=
  let v101 : Index := Scalar.indexCast v2
  let c0_47 : Index := 0#32
  let c0_48 : Index := 0#32
  ![v101.toNat, 0, 0]
def k0_cond23 (v2 : BitVec 32) : BitVec 1 :=
  let c7_i32_45 : BitVec 32 := 7#32
  let v98 : BitVec 1 := Scalar.cmpi .eq v2 c7_i32_45
  let v99 : BitVec 32 := Scalar.extui v98
  let c0_i32_46 : BitVec 32 := 0#32
  let v100 : BitVec 1 := Scalar.cmpi .ne v99 c0_i32_46
  v100

def k0_chk2 (i : grid0.Coords) (v2 : BitVec 32) (v4 : BitVec 32) (v6 : BitVec 32) : Prop :=
  (∀ (k0_h1 : k0_cond1 v4 = 1#1), ∀ (k0_h2 : k0_cond2 i = 1#1), ∀ (k0_h6 : k0_cond6 v6 = 1#1), ∀ a, (k0_off6 v2) a + S1x1280x128.size a ≤ S8x1280x128.size a) ∧
  (∀ (k0_h1 : k0_cond1 v4 = 1#1), ∀ (k0_h2 : k0_cond2 i = 1#1), ∀ (k0_h6 : k0_cond6 v6 = 1#1), ∀ (k0_h7 : k0_cond7 v2 = 1#1), ∀ a, (k0_off7 v2) a + S1x1280x128.size a ≤ S8x1280x128.size a) ∧
  (∀ (k0_h1 : k0_cond1 v4 = 1#1), ∀ (k0_h2 : k0_cond2 i = 1#1), ∀ (k0_h6 : k0_cond6 v6 = 1#1), ∀ (k0_h8 : k0_cond8 v2 = 1#1), ∀ a, (k0_off8 v2) a + S1x1280x128.size a ≤ S8x1280x128.size a) ∧
  (∀ (k0_h1 : k0_cond1 v4 = 1#1), ∀ (k0_h2 : k0_cond2 i = 1#1), ∀ (k0_h6 : k0_cond6 v6 = 1#1), ∀ (k0_h9 : k0_cond9 v2 = 1#1), ∀ a, (k0_off9 v2) a + S1x1280x128.size a ≤ S8x1280x128.size a) ∧
  (∀ (k0_h15 : k0_cond15 v4 = 1#1), ∀ (k0_h16 : k0_cond16 i = 1#1), ∀ (k0_h20 : k0_cond20 v6 = 1#1), ∀ a, (k0_off19 v2) a + S1x1280x128.size a ≤ S8x1280x128.size a) ∧
  (∀ (k0_h15 : k0_cond15 v4 = 1#1), ∀ (k0_h16 : k0_cond16 i = 1#1), ∀ (k0_h20 : k0_cond20 v6 = 1#1), ∀ (k0_h21 : k0_cond21 v2 = 1#1), ∀ a, (k0_off20 v2) a + S1x1280x128.size a ≤ S8x1280x128.size a) ∧
  (∀ (k0_h15 : k0_cond15 v4 = 1#1), ∀ (k0_h16 : k0_cond16 i = 1#1), ∀ (k0_h20 : k0_cond20 v6 = 1#1), ∀ (k0_h22 : k0_cond22 v2 = 1#1), ∀ a, (k0_off21 v2) a + S1x1280x128.size a ≤ S8x1280x128.size a) ∧
  (∀ (k0_h15 : k0_cond15 v4 = 1#1), ∀ (k0_h16 : k0_cond16 i = 1#1), ∀ (k0_h20 : k0_cond20 v6 = 1#1), ∀ (k0_h23 : k0_cond23 v2 = 1#1), ∀ a, (k0_off22 v2) a + S1x1280x128.size a ≤ S8x1280x128.size a)
theorem k0_off6_inb : ∀ (i : grid0.Coords) (v2 : BitVec 32) (v4 : BitVec 32) (v6 : BitVec 32) (k0_hw2 : k0_chk2 i v2 v4 v6), ∀ (k0_h1 : k0_cond1 v4 = 1#1), ∀ (k0_h2 : k0_cond2 i = 1#1), ∀ (k0_h6 : k0_cond6 v6 = 1#1), ∀ a, (k0_off6 v2) a + S1x1280x128.size a ≤ S8x1280x128.size a := fun i v2 v4 v6 k0_hw2 k0_h1 k0_h2 k0_h6 => k0_hw2.1 k0_h1 k0_h2 k0_h6
theorem k0_off7_inb : ∀ (i : grid0.Coords) (v2 : BitVec 32) (v4 : BitVec 32) (v6 : BitVec 32) (k0_hw2 : k0_chk2 i v2 v4 v6), ∀ (k0_h1 : k0_cond1 v4 = 1#1), ∀ (k0_h2 : k0_cond2 i = 1#1), ∀ (k0_h6 : k0_cond6 v6 = 1#1), ∀ (k0_h7 : k0_cond7 v2 = 1#1), ∀ a, (k0_off7 v2) a + S1x1280x128.size a ≤ S8x1280x128.size a := fun i v2 v4 v6 k0_hw2 k0_h1 k0_h2 k0_h6 k0_h7 => k0_hw2.2.1 k0_h1 k0_h2 k0_h6 k0_h7
theorem k0_off8_inb : ∀ (i : grid0.Coords) (v2 : BitVec 32) (v4 : BitVec 32) (v6 : BitVec 32) (k0_hw2 : k0_chk2 i v2 v4 v6), ∀ (k0_h1 : k0_cond1 v4 = 1#1), ∀ (k0_h2 : k0_cond2 i = 1#1), ∀ (k0_h6 : k0_cond6 v6 = 1#1), ∀ (k0_h8 : k0_cond8 v2 = 1#1), ∀ a, (k0_off8 v2) a + S1x1280x128.size a ≤ S8x1280x128.size a := fun i v2 v4 v6 k0_hw2 k0_h1 k0_h2 k0_h6 k0_h8 => k0_hw2.2.2.1 k0_h1 k0_h2 k0_h6 k0_h8
theorem k0_off9_inb : ∀ (i : grid0.Coords) (v2 : BitVec 32) (v4 : BitVec 32) (v6 : BitVec 32) (k0_hw2 : k0_chk2 i v2 v4 v6), ∀ (k0_h1 : k0_cond1 v4 = 1#1), ∀ (k0_h2 : k0_cond2 i = 1#1), ∀ (k0_h6 : k0_cond6 v6 = 1#1), ∀ (k0_h9 : k0_cond9 v2 = 1#1), ∀ a, (k0_off9 v2) a + S1x1280x128.size a ≤ S8x1280x128.size a := fun i v2 v4 v6 k0_hw2 k0_h1 k0_h2 k0_h6 k0_h9 => k0_hw2.2.2.2.1 k0_h1 k0_h2 k0_h6 k0_h9
theorem k0_off19_inb : ∀ (i : grid0.Coords) (v2 : BitVec 32) (v4 : BitVec 32) (v6 : BitVec 32) (k0_hw2 : k0_chk2 i v2 v4 v6), ∀ (k0_h15 : k0_cond15 v4 = 1#1), ∀ (k0_h16 : k0_cond16 i = 1#1), ∀ (k0_h20 : k0_cond20 v6 = 1#1), ∀ a, (k0_off19 v2) a + S1x1280x128.size a ≤ S8x1280x128.size a := fun i v2 v4 v6 k0_hw2 k0_h15 k0_h16 k0_h20 => k0_hw2.2.2.2.2.1 k0_h15 k0_h16 k0_h20
theorem k0_off20_inb : ∀ (i : grid0.Coords) (v2 : BitVec 32) (v4 : BitVec 32) (v6 : BitVec 32) (k0_hw2 : k0_chk2 i v2 v4 v6), ∀ (k0_h15 : k0_cond15 v4 = 1#1), ∀ (k0_h16 : k0_cond16 i = 1#1), ∀ (k0_h20 : k0_cond20 v6 = 1#1), ∀ (k0_h21 : k0_cond21 v2 = 1#1), ∀ a, (k0_off20 v2) a + S1x1280x128.size a ≤ S8x1280x128.size a := fun i v2 v4 v6 k0_hw2 k0_h15 k0_h16 k0_h20 k0_h21 => k0_hw2.2.2.2.2.2.1 k0_h15 k0_h16 k0_h20 k0_h21
theorem k0_off21_inb : ∀ (i : grid0.Coords) (v2 : BitVec 32) (v4 : BitVec 32) (v6 : BitVec 32) (k0_hw2 : k0_chk2 i v2 v4 v6), ∀ (k0_h15 : k0_cond15 v4 = 1#1), ∀ (k0_h16 : k0_cond16 i = 1#1), ∀ (k0_h20 : k0_cond20 v6 = 1#1), ∀ (k0_h22 : k0_cond22 v2 = 1#1), ∀ a, (k0_off21 v2) a + S1x1280x128.size a ≤ S8x1280x128.size a := fun i v2 v4 v6 k0_hw2 k0_h15 k0_h16 k0_h20 k0_h22 => k0_hw2.2.2.2.2.2.2.1 k0_h15 k0_h16 k0_h20 k0_h22
theorem k0_off22_inb : ∀ (i : grid0.Coords) (v2 : BitVec 32) (v4 : BitVec 32) (v6 : BitVec 32) (k0_hw2 : k0_chk2 i v2 v4 v6), ∀ (k0_h15 : k0_cond15 v4 = 1#1), ∀ (k0_h16 : k0_cond16 i = 1#1), ∀ (k0_h20 : k0_cond20 v6 = 1#1), ∀ (k0_h23 : k0_cond23 v2 = 1#1), ∀ a, (k0_off22 v2) a + S1x1280x128.size a ≤ S8x1280x128.size a := fun i v2 v4 v6 k0_hw2 k0_h15 k0_h16 k0_h20 k0_h23 => k0_hw2.2.2.2.2.2.2.2 k0_h15 k0_h16 k0_h20 k0_h23

def k0_off23 (v8 : BitVec 32) : Fin 3 → Nat :=
  let v110 : Index := Scalar.indexCast v8
  let c0_56 : Index := 0#32
  let c0_57 : Index := 0#32
  ![v110.toNat, 0, 0]

def k0_chk3 (i : grid0.Coords) (v2 : BitVec 32) (v4 : BitVec 32) (v6 : BitVec 32) (v8 : BitVec 32) : Prop :=
  (∀ (k0_h1 : k0_cond1 v4 = 1#1), ∀ (k0_h2 : k0_cond2 i = 1#1), ∀ (k0_h6 : k0_cond6 v6 = 1#1), ∀ (k0_h9 : k0_cond9 v2 = 1#1), ∀ a, (k0_off10 v8) a + S1x1280x128.size a ≤ S8x1280x128.size a) ∧
  (∀ (k0_h15 : k0_cond15 v4 = 1#1), ∀ (k0_h16 : k0_cond16 i = 1#1), ∀ (k0_h20 : k0_cond20 v6 = 1#1), ∀ (k0_h23 : k0_cond23 v2 = 1#1), ∀ a, (k0_off23 v8) a + S1x1280x128.size a ≤ S8x1280x128.size a)
theorem k0_off10_inb : ∀ (i : grid0.Coords) (v2 : BitVec 32) (v4 : BitVec 32) (v6 : BitVec 32) (v8 : BitVec 32) (k0_hw3 : k0_chk3 i v2 v4 v6 v8), ∀ (k0_h1 : k0_cond1 v4 = 1#1), ∀ (k0_h2 : k0_cond2 i = 1#1), ∀ (k0_h6 : k0_cond6 v6 = 1#1), ∀ (k0_h9 : k0_cond9 v2 = 1#1), ∀ a, (k0_off10 v8) a + S1x1280x128.size a ≤ S8x1280x128.size a := fun i v2 v4 v6 v8 k0_hw3 k0_h1 k0_h2 k0_h6 k0_h9 => k0_hw3.1 k0_h1 k0_h2 k0_h6 k0_h9
theorem k0_off23_inb : ∀ (i : grid0.Coords) (v2 : BitVec 32) (v4 : BitVec 32) (v6 : BitVec 32) (v8 : BitVec 32) (k0_hw3 : k0_chk3 i v2 v4 v6 v8), ∀ (k0_h15 : k0_cond15 v4 = 1#1), ∀ (k0_h16 : k0_cond16 i = 1#1), ∀ (k0_h20 : k0_cond20 v6 = 1#1), ∀ (k0_h23 : k0_cond23 v2 = 1#1), ∀ a, (k0_off23 v8) a + S1x1280x128.size a ≤ S8x1280x128.size a := fun i v2 v4 v6 v8 k0_hw3 k0_h15 k0_h16 k0_h20 k0_h23 => k0_hw3.2 k0_h15 k0_h16 k0_h20 k0_h23

def k0_cond24 (i : grid0.Coords) : BitVec 1 :=
  let arg0 : BitVec 32 := BitVec.ofNat 32 (i 0).val
  let c32_i32 : BitVec 32 := 32#32
  let v0 : BitVec 1 := Scalar.cmpi .slt arg0 c32_i32
  let v_true : BitVec 1 := 1#1
  let v28 : BitVec 1 := Scalar.xori v0 v_true
  let v29 : BitVec 32 := Scalar.extui v28
  let c0_i32_8 : BitVec 32 := 0#32
  let v30 : BitVec 1 := Scalar.cmpi .ne v29 c0_i32_8
  v30

def k0_off24 (v8 : BitVec 32) : Fin 3 → Nat :=
  let v41 : Index := Scalar.indexCast v8
  let c0_13 : Index := 0#32
  let c0_14 : Index := 0#32
  ![v41.toNat, 0, 0]
def k0_cond25 (v13 : BitVec 32) : BitVec 1 :=
  let c1_i32_0 : BitVec 32 := 1#32
  let v14 : BitVec 1 := Scalar.cmpi .eq v13 c1_i32_0
  let v31 : BitVec 32 := Scalar.extui v14
  let c0_i32_9 : BitVec 32 := 0#32
  let v32 : BitVec 1 := Scalar.cmpi .ne v31 c0_i32_9
  v32

def k0_chk4 (i : grid0.Coords) (v4 : BitVec 32) (v8 : BitVec 32) (v13 : BitVec 32) : Prop :=
  (∀ (k0_h1 : k0_cond1 v4 = 1#1), ∀ (k0_h10 : k0_cond10 i = 1#1), ∀ (k0_h11 : k0_cond11 v13 = 1#1), ∀ a, (k0_off11 v8) a + S1x1280x128.size a ≤ S8x1280x128.size a) ∧
  (∀ (k0_h15 : k0_cond15 v4 = 1#1), ∀ (k0_h24 : k0_cond24 i = 1#1), ∀ (k0_h25 : k0_cond25 v13 = 1#1), ∀ a, (k0_off24 v8) a + S1x1280x128.size a ≤ S8x1280x128.size a)
theorem k0_off11_inb : ∀ (i : grid0.Coords) (v4 : BitVec 32) (v8 : BitVec 32) (v13 : BitVec 32) (k0_hw4 : k0_chk4 i v4 v8 v13), ∀ (k0_h1 : k0_cond1 v4 = 1#1), ∀ (k0_h10 : k0_cond10 i = 1#1), ∀ (k0_h11 : k0_cond11 v13 = 1#1), ∀ a, (k0_off11 v8) a + S1x1280x128.size a ≤ S8x1280x128.size a := fun i v4 v8 v13 k0_hw4 k0_h1 k0_h10 k0_h11 => k0_hw4.1 k0_h1 k0_h10 k0_h11
theorem k0_off24_inb : ∀ (i : grid0.Coords) (v4 : BitVec 32) (v8 : BitVec 32) (v13 : BitVec 32) (k0_hw4 : k0_chk4 i v4 v8 v13), ∀ (k0_h15 : k0_cond15 v4 = 1#1), ∀ (k0_h24 : k0_cond24 i = 1#1), ∀ (k0_h25 : k0_cond25 v13 = 1#1), ∀ a, (k0_off24 v8) a + S1x1280x128.size a ≤ S8x1280x128.size a := fun i v4 v8 v13 k0_hw4 k0_h15 k0_h24 k0_h25 => k0_hw4.2 k0_h15 k0_h24 k0_h25

def k0_off25 (v4 : BitVec 32) : Fin 3 → Nat :=
  let c2_i32 : BitVec 32 := 2#32
  let v15 : BitVec 32 := Scalar.muli c2_i32 v4
  let v42 : Index := Scalar.indexCast v15
  let c0_15 : Index := 0#32
  let c0_16 : Index := 0#32
  ![v42.toNat, 0, 0]
def k0_cond26 (v2 : BitVec 32) (v4 : BitVec 32) : BitVec 1 :=
  let c2_i32 : BitVec 32 := 2#32
  let v15 : BitVec 32 := Scalar.muli c2_i32 v4
  let v33 : BitVec 1 := Scalar.cmpi .sgt v15 v2
  let v34 : BitVec 32 := Scalar.extui v33
  let c0_i32_10 : BitVec 32 := 0#32
  let v35 : BitVec 1 := Scalar.cmpi .ne v34 c0_i32_10
  v35

def k0_off26 (v4 : BitVec 32) : Fin 3 → Nat :=
  let c2_i32_1 : BitVec 32 := 2#32
  let v16 : BitVec 32 := Scalar.muli c2_i32_1 v4
  let c1_i32_2 : BitVec 32 := 1#32
  let v17 : BitVec 32 := Scalar.addi v16 c1_i32_2
  let v42 : Index := Scalar.indexCast v17
  let c0_15 : Index := 0#32
  let c0_16 : Index := 0#32
  ![v42.toNat, 0, 0]
def k0_cond27 (v2 : BitVec 32) (v4 : BitVec 32) : BitVec 1 :=
  let c2_i32_1 : BitVec 32 := 2#32
  let v16 : BitVec 32 := Scalar.muli c2_i32_1 v4
  let c1_i32_2 : BitVec 32 := 1#32
  let v17 : BitVec 32 := Scalar.addi v16 c1_i32_2
  let v36 : BitVec 1 := Scalar.cmpi .sgt v17 v2
  let v37 : BitVec 32 := Scalar.extui v36
  let c0_i32_11 : BitVec 32 := 0#32
  let v38 : BitVec 1 := Scalar.cmpi .ne v37 c0_i32_11
  v38

def k0_chk1 (i : grid0.Coords) (v2 : BitVec 32) (v4 : BitVec 32) : Prop :=
  (∀ (k0_h1 : k0_cond1 v4 = 1#1), ∀ (k0_h2 : k0_cond2 i = 1#1), ∀ a, (k0_off2 v4) a + S1x1280x128.size a ≤ S8x1280x128.size a) ∧
  (∀ (k0_h1 : k0_cond1 v4 = 1#1), ∀ (k0_h2 : k0_cond2 i = 1#1), ∀ a, (k0_off3 v4) a + S1x1280x128.size a ≤ S8x1280x128.size a) ∧
  (∀ (k0_h1 : k0_cond1 v4 = 1#1), ∀ (k0_h2 : k0_cond2 i = 1#1), ∀ (k0_h4 : k0_cond4 v2 v4 = 1#1), ∀ a, (k0_off4 v4) a + S1x1280x128.size a ≤ S8x1280x128.size a) ∧
  (∀ (k0_h1 : k0_cond1 v4 = 1#1), ∀ (k0_h2 : k0_cond2 i = 1#1), ∀ (k0_h5 : k0_cond5 v2 v4 = 1#1), ∀ a, (k0_off5 v4) a + S1x1280x128.size a ≤ S8x1280x128.size a) ∧
  (∀ (k0_h1 : k0_cond1 v4 = 1#1), ∀ (k0_h10 : k0_cond10 i = 1#1), ∀ (k0_h12 : k0_cond12 v2 v4 = 1#1), ∀ a, (k0_off12 v4) a + S1x1280x128.size a ≤ S8x1280x128.size a) ∧
  (∀ (k0_h1 : k0_cond1 v4 = 1#1), ∀ (k0_h10 : k0_cond10 i = 1#1), ∀ (k0_h13 : k0_cond13 v2 v4 = 1#1), ∀ a, (k0_off13 v4) a + S1x1280x128.size a ≤ S8x1280x128.size a) ∧
  (∀ (k0_h15 : k0_cond15 v4 = 1#1), ∀ (k0_h16 : k0_cond16 i = 1#1), ∀ a, (k0_off15 v4) a + S1x1280x128.size a ≤ S8x1280x128.size a) ∧
  (∀ (k0_h15 : k0_cond15 v4 = 1#1), ∀ (k0_h16 : k0_cond16 i = 1#1), ∀ a, (k0_off16 v4) a + S1x1040x128.size a ≤ S8x1280x128.size a) ∧
  (∀ (k0_h15 : k0_cond15 v4 = 1#1), ∀ (k0_h16 : k0_cond16 i = 1#1), ∀ (k0_h18 : k0_cond18 v2 v4 = 1#1), ∀ a, (k0_off17 v4) a + S1x1280x128.size a ≤ S8x1280x128.size a) ∧
  (∀ (k0_h15 : k0_cond15 v4 = 1#1), ∀ (k0_h16 : k0_cond16 i = 1#1), ∀ (k0_h19 : k0_cond19 v2 v4 = 1#1), ∀ a, (k0_off18 v4) a + S1x1040x128.size a ≤ S8x1280x128.size a) ∧
  (∀ (k0_h15 : k0_cond15 v4 = 1#1), ∀ (k0_h24 : k0_cond24 i = 1#1), ∀ (k0_h26 : k0_cond26 v2 v4 = 1#1), ∀ a, (k0_off25 v4) a + S1x1280x128.size a ≤ S8x1280x128.size a) ∧
  (∀ (k0_h15 : k0_cond15 v4 = 1#1), ∀ (k0_h24 : k0_cond24 i = 1#1), ∀ (k0_h27 : k0_cond27 v2 v4 = 1#1), ∀ a, (k0_off26 v4) a + S1x1040x128.size a ≤ S8x1280x128.size a)
theorem k0_off2_inb : ∀ (i : grid0.Coords) (v2 : BitVec 32) (v4 : BitVec 32) (k0_hw1 : k0_chk1 i v2 v4), ∀ (k0_h1 : k0_cond1 v4 = 1#1), ∀ (k0_h2 : k0_cond2 i = 1#1), ∀ a, (k0_off2 v4) a + S1x1280x128.size a ≤ S8x1280x128.size a := fun i v2 v4 k0_hw1 k0_h1 k0_h2 => k0_hw1.1 k0_h1 k0_h2
theorem k0_off3_inb : ∀ (i : grid0.Coords) (v2 : BitVec 32) (v4 : BitVec 32) (k0_hw1 : k0_chk1 i v2 v4), ∀ (k0_h1 : k0_cond1 v4 = 1#1), ∀ (k0_h2 : k0_cond2 i = 1#1), ∀ a, (k0_off3 v4) a + S1x1280x128.size a ≤ S8x1280x128.size a := fun i v2 v4 k0_hw1 k0_h1 k0_h2 => k0_hw1.2.1 k0_h1 k0_h2
theorem k0_off4_inb : ∀ (i : grid0.Coords) (v2 : BitVec 32) (v4 : BitVec 32) (k0_hw1 : k0_chk1 i v2 v4), ∀ (k0_h1 : k0_cond1 v4 = 1#1), ∀ (k0_h2 : k0_cond2 i = 1#1), ∀ (k0_h4 : k0_cond4 v2 v4 = 1#1), ∀ a, (k0_off4 v4) a + S1x1280x128.size a ≤ S8x1280x128.size a := fun i v2 v4 k0_hw1 k0_h1 k0_h2 k0_h4 => k0_hw1.2.2.1 k0_h1 k0_h2 k0_h4
theorem k0_off5_inb : ∀ (i : grid0.Coords) (v2 : BitVec 32) (v4 : BitVec 32) (k0_hw1 : k0_chk1 i v2 v4), ∀ (k0_h1 : k0_cond1 v4 = 1#1), ∀ (k0_h2 : k0_cond2 i = 1#1), ∀ (k0_h5 : k0_cond5 v2 v4 = 1#1), ∀ a, (k0_off5 v4) a + S1x1280x128.size a ≤ S8x1280x128.size a := fun i v2 v4 k0_hw1 k0_h1 k0_h2 k0_h5 => k0_hw1.2.2.2.1 k0_h1 k0_h2 k0_h5
theorem k0_off12_inb : ∀ (i : grid0.Coords) (v2 : BitVec 32) (v4 : BitVec 32) (k0_hw1 : k0_chk1 i v2 v4), ∀ (k0_h1 : k0_cond1 v4 = 1#1), ∀ (k0_h10 : k0_cond10 i = 1#1), ∀ (k0_h12 : k0_cond12 v2 v4 = 1#1), ∀ a, (k0_off12 v4) a + S1x1280x128.size a ≤ S8x1280x128.size a := fun i v2 v4 k0_hw1 k0_h1 k0_h10 k0_h12 => k0_hw1.2.2.2.2.1 k0_h1 k0_h10 k0_h12
theorem k0_off13_inb : ∀ (i : grid0.Coords) (v2 : BitVec 32) (v4 : BitVec 32) (k0_hw1 : k0_chk1 i v2 v4), ∀ (k0_h1 : k0_cond1 v4 = 1#1), ∀ (k0_h10 : k0_cond10 i = 1#1), ∀ (k0_h13 : k0_cond13 v2 v4 = 1#1), ∀ a, (k0_off13 v4) a + S1x1280x128.size a ≤ S8x1280x128.size a := fun i v2 v4 k0_hw1 k0_h1 k0_h10 k0_h13 => k0_hw1.2.2.2.2.2.1 k0_h1 k0_h10 k0_h13
theorem k0_off15_inb : ∀ (i : grid0.Coords) (v2 : BitVec 32) (v4 : BitVec 32) (k0_hw1 : k0_chk1 i v2 v4), ∀ (k0_h15 : k0_cond15 v4 = 1#1), ∀ (k0_h16 : k0_cond16 i = 1#1), ∀ a, (k0_off15 v4) a + S1x1280x128.size a ≤ S8x1280x128.size a := fun i v2 v4 k0_hw1 k0_h15 k0_h16 => k0_hw1.2.2.2.2.2.2.1 k0_h15 k0_h16
theorem k0_off16_inb : ∀ (i : grid0.Coords) (v2 : BitVec 32) (v4 : BitVec 32) (k0_hw1 : k0_chk1 i v2 v4), ∀ (k0_h15 : k0_cond15 v4 = 1#1), ∀ (k0_h16 : k0_cond16 i = 1#1), ∀ a, (k0_off16 v4) a + S1x1040x128.size a ≤ S8x1280x128.size a := fun i v2 v4 k0_hw1 k0_h15 k0_h16 => k0_hw1.2.2.2.2.2.2.2.1 k0_h15 k0_h16
theorem k0_off17_inb : ∀ (i : grid0.Coords) (v2 : BitVec 32) (v4 : BitVec 32) (k0_hw1 : k0_chk1 i v2 v4), ∀ (k0_h15 : k0_cond15 v4 = 1#1), ∀ (k0_h16 : k0_cond16 i = 1#1), ∀ (k0_h18 : k0_cond18 v2 v4 = 1#1), ∀ a, (k0_off17 v4) a + S1x1280x128.size a ≤ S8x1280x128.size a := fun i v2 v4 k0_hw1 k0_h15 k0_h16 k0_h18 => k0_hw1.2.2.2.2.2.2.2.2.1 k0_h15 k0_h16 k0_h18
theorem k0_off18_inb : ∀ (i : grid0.Coords) (v2 : BitVec 32) (v4 : BitVec 32) (k0_hw1 : k0_chk1 i v2 v4), ∀ (k0_h15 : k0_cond15 v4 = 1#1), ∀ (k0_h16 : k0_cond16 i = 1#1), ∀ (k0_h19 : k0_cond19 v2 v4 = 1#1), ∀ a, (k0_off18 v4) a + S1x1040x128.size a ≤ S8x1280x128.size a := fun i v2 v4 k0_hw1 k0_h15 k0_h16 k0_h19 => k0_hw1.2.2.2.2.2.2.2.2.2.1 k0_h15 k0_h16 k0_h19
theorem k0_off25_inb : ∀ (i : grid0.Coords) (v2 : BitVec 32) (v4 : BitVec 32) (k0_hw1 : k0_chk1 i v2 v4), ∀ (k0_h15 : k0_cond15 v4 = 1#1), ∀ (k0_h24 : k0_cond24 i = 1#1), ∀ (k0_h26 : k0_cond26 v2 v4 = 1#1), ∀ a, (k0_off25 v4) a + S1x1280x128.size a ≤ S8x1280x128.size a := fun i v2 v4 k0_hw1 k0_h15 k0_h24 k0_h26 => k0_hw1.2.2.2.2.2.2.2.2.2.2.1 k0_h15 k0_h24 k0_h26
theorem k0_off26_inb : ∀ (i : grid0.Coords) (v2 : BitVec 32) (v4 : BitVec 32) (k0_hw1 : k0_chk1 i v2 v4), ∀ (k0_h15 : k0_cond15 v4 = 1#1), ∀ (k0_h24 : k0_cond24 i = 1#1), ∀ (k0_h27 : k0_cond27 v2 v4 = 1#1), ∀ a, (k0_off26 v4) a + S1x1040x128.size a ≤ S8x1280x128.size a := fun i v2 v4 k0_hw1 k0_h15 k0_h24 k0_h27 => k0_hw1.2.2.2.2.2.2.2.2.2.2.2 k0_h15 k0_h24 k0_h27

def k0_off27 (v8 : BitVec 32) : Fin 3 → Nat :=
  let v41 : Index := Scalar.indexCast v8
  let c0_13 : Index := 0#32
  let c0_14 : Index := 0#32
  ![v41.toNat, 0, 0]
def k0_cond28 (v10 : BitVec 32) : BitVec 1 :=
  let c1_i32 : BitVec 32 := 1#32
  let v11 : BitVec 1 := Scalar.cmpi .eq v10 c1_i32
  let v39 : BitVec 32 := Scalar.extui v11
  let c0_i32_12 : BitVec 32 := 0#32
  let v40 : BitVec 1 := Scalar.cmpi .ne v39 c0_i32_12
  v40

def k0_chk5 (i : grid0.Coords) (v4 : BitVec 32) (v8 : BitVec 32) (v10 : BitVec 32) : Prop :=
  (∀ (k0_h1 : k0_cond1 v4 = 1#1), ∀ (k0_h10 : k0_cond10 i = 1#1), ∀ (k0_h14 : k0_cond14 v10 = 1#1), ∀ a, (k0_off14 v8) a + S1x1280x128.size a ≤ S8x1280x128.size a) ∧
  (∀ (k0_h15 : k0_cond15 v4 = 1#1), ∀ (k0_h24 : k0_cond24 i = 1#1), ∀ (k0_h28 : k0_cond28 v10 = 1#1), ∀ a, (k0_off27 v8) a + S1x1280x128.size a ≤ S8x1280x128.size a)
theorem k0_off14_inb : ∀ (i : grid0.Coords) (v4 : BitVec 32) (v8 : BitVec 32) (v10 : BitVec 32) (k0_hw5 : k0_chk5 i v4 v8 v10), ∀ (k0_h1 : k0_cond1 v4 = 1#1), ∀ (k0_h10 : k0_cond10 i = 1#1), ∀ (k0_h14 : k0_cond14 v10 = 1#1), ∀ a, (k0_off14 v8) a + S1x1280x128.size a ≤ S8x1280x128.size a := fun i v4 v8 v10 k0_hw5 k0_h1 k0_h10 k0_h14 => k0_hw5.1 k0_h1 k0_h10 k0_h14
theorem k0_off27_inb : ∀ (i : grid0.Coords) (v4 : BitVec 32) (v8 : BitVec 32) (v10 : BitVec 32) (k0_hw5 : k0_chk5 i v4 v8 v10), ∀ (k0_h15 : k0_cond15 v4 = 1#1), ∀ (k0_h24 : k0_cond24 i = 1#1), ∀ (k0_h28 : k0_cond28 v10 = 1#1), ∀ a, (k0_off27 v8) a + S1x1280x128.size a ≤ S8x1280x128.size a := fun i v4 v8 v10 k0_hw5 k0_h15 k0_h24 k0_h28 => k0_hw5.2 k0_h15 k0_h24 k0_h28

def cc0_transform_0 (i : grid0.Coords) : Fin 2 → Nat :=
  let arg0 : BitVec 32 := BitVec.ofNat 32 (i 0).val
  let c36_i32 : BitVec 32 := 36#32
  let v0 : BitVec 1 := Scalar.cmpi .sge arg0 c36_i32
  let v1 : BitVec 32 := Scalar.extui v0
  let c0_i32 : BitVec 32 := 0#32
  let v2 : BitVec 32 := Scalar.addi c0_i32 v1
  let c39_i32 : BitVec 32 := 39#32
  let v3 : BitVec 1 := Scalar.cmpi .sge arg0 c39_i32
  let v4 : BitVec 32 := Scalar.extui v3
  let v5 : BitVec 32 := Scalar.addi v2 v4
  let c42_i32 : BitVec 32 := 42#32
  let v6 : BitVec 1 := Scalar.cmpi .sge arg0 c42_i32
  let v7 : BitVec 32 := Scalar.extui v6
  let v8 : BitVec 32 := Scalar.addi v5 v7
  let c44_i32 : BitVec 32 := 44#32
  let v9 : BitVec 1 := Scalar.cmpi .sge arg0 c44_i32
  let v10 : BitVec 32 := Scalar.extui v9
  let v11 : BitVec 32 := Scalar.addi v8 v10
  let c46_i32 : BitVec 32 := 46#32
  let v12 : BitVec 1 := Scalar.cmpi .sge arg0 c46_i32
  let v13 : BitVec 32 := Scalar.extui v12
  let v14 : BitVec 32 := Scalar.addi v11 v13
  let c47_i32 : BitVec 32 := 47#32
  let v15 : BitVec 1 := Scalar.cmpi .sge arg0 c47_i32
  let v16 : BitVec 32 := Scalar.extui v15
  let v17 : BitVec 32 := Scalar.addi v14 v16
  let c32_i32 : BitVec 32 := 32#32
  let v18 : BitVec 1 := Scalar.cmpi .slt arg0 c32_i32
  let c4_i32 : BitVec 32 := 4#32
  let v19 : BitVec 32 := Scalar.divsi arg0 c4_i32
  let c0_i32_0 : BitVec 32 := 0#32
  let v20 : BitVec 1 := Scalar.cmpi .sgt arg0 c0_i32_0
  let v21 : BitVec 32 := Scalar.extui v20
  let c0_i32_1 : BitVec 32 := 0#32
  let v22 : BitVec 1 := Scalar.cmpi .slt arg0 c0_i32_1
  let v23 : BitVec 32 := Scalar.extui v22
  let v24 : BitVec 32 := Scalar.subi v21 v23
  let c0_i32_2 : BitVec 32 := 0#32
  let v25 : BitVec 1 := Scalar.cmpi .sgt c4_i32 c0_i32_2
  let v26 : BitVec 32 := Scalar.extui v25
  let c0_i32_3 : BitVec 32 := 0#32
  let v27 : BitVec 1 := Scalar.cmpi .slt c4_i32 c0_i32_3
  let v28 : BitVec 32 := Scalar.extui v27
  let v29 : BitVec 32 := Scalar.subi v26 v28
  let v30 : BitVec 1 := Scalar.cmpi .ne v24 v29
  let v31 : BitVec 32 := Scalar.remsi arg0 c4_i32
  let c0_i32_4 : BitVec 32 := 0#32
  let v32 : BitVec 1 := Scalar.cmpi .ne v31 c0_i32_4
  let v33 : BitVec 1 := Scalar.andi v30 v32
  let c1_i32 : BitVec 32 := 1#32
  let v34 : BitVec 32 := Scalar.subi v19 c1_i32
  let v35 : BitVec 32 := Scalar.select v33 v34 v19
  let v36 : BitVec 32 := Scalar.select v18 v35 v17
  let c4_i32_5 : BitVec 32 := 4#32
  let v37 : BitVec 32 := Scalar.divsi arg0 c4_i32_5
  let c0_i32_6 : BitVec 32 := 0#32
  let v38 : BitVec 1 := Scalar.cmpi .sgt arg0 c0_i32_6
  let v39 : BitVec 32 := Scalar.extui v38
  let c0_i32_7 : BitVec 32 := 0#32
  let v40 : BitVec 1 := Scalar.cmpi .slt arg0 c0_i32_7
  let v41 : BitVec 32 := Scalar.extui v40
  let v42 : BitVec 32 := Scalar.subi v39 v41
  let c0_i32_8 : BitVec 32 := 0#32
  let v43 : BitVec 1 := Scalar.cmpi .sgt c4_i32_5 c0_i32_8
  let v44 : BitVec 32 := Scalar.extui v43
  let c0_i32_9 : BitVec 32 := 0#32
  let v45 : BitVec 1 := Scalar.cmpi .slt c4_i32_5 c0_i32_9
  let v46 : BitVec 32 := Scalar.extui v45
  let v47 : BitVec 32 := Scalar.subi v44 v46
  let v48 : BitVec 1 := Scalar.cmpi .ne v42 v47
  let v49 : BitVec 32 := Scalar.remsi arg0 c4_i32_5
  let c0_i32_10 : BitVec 32 := 0#32
  let v50 : BitVec 1 := Scalar.cmpi .ne v49 c0_i32_10
  let v51 : BitVec 1 := Scalar.andi v48 v50
  let c1_i32_11 : BitVec 32 := 1#32
  let v52 : BitVec 32 := Scalar.subi v37 c1_i32_11
  let v53 : BitVec 32 := Scalar.select v51 v52 v37
  let c4_i32_12 : BitVec 32 := 4#32
  let c0_i32_13 : BitVec 32 := 0#32
  let v54 : BitVec 1 := Scalar.cmpi .eq c4_i32_12 c0_i32_13
  let c1_i32_14 : BitVec 32 := 1#32
  let v55 : BitVec 32 := Scalar.select v54 c1_i32_14 c4_i32_12
  let v56 : BitVec 32 := Scalar.remsi arg0 v55
  let c0_i32_15 : BitVec 32 := 0#32
  let v57 : BitVec 1 := Scalar.cmpi .ne v56 c0_i32_15
  let c0_i32_16 : BitVec 32 := 0#32
  let v58 : BitVec 1 := Scalar.cmpi .slt v56 c0_i32_16
  let c0_i32_17 : BitVec 32 := 0#32
  let v59 : BitVec 1 := Scalar.cmpi .slt v55 c0_i32_17
  let v60 : BitVec 1 := Scalar.xori v58 v59
  let v61 : BitVec 1 := Scalar.andi v60 v57
  let v62 : BitVec 32 := Scalar.addi v56 v55
  let v63 : BitVec 32 := Scalar.select v61 v62 v56
  let c3_i32 : BitVec 32 := 3#32
  let v64 : BitVec 1 := Scalar.cmpi .eq v63 c3_i32
  let c2_i32 : BitVec 32 := 2#32
  let v65 : BitVec 32 := Scalar.divsi v53 c2_i32
  let c0_i32_18 : BitVec 32 := 0#32
  let v66 : BitVec 1 := Scalar.cmpi .sgt v53 c0_i32_18
  let v67 : BitVec 32 := Scalar.extui v66
  let c0_i32_19 : BitVec 32 := 0#32
  let v68 : BitVec 1 := Scalar.cmpi .slt v53 c0_i32_19
  let v69 : BitVec 32 := Scalar.extui v68
  let v70 : BitVec 32 := Scalar.subi v67 v69
  let c0_i32_20 : BitVec 32 := 0#32
  let v71 : BitVec 1 := Scalar.cmpi .sgt c2_i32 c0_i32_20
  let v72 : BitVec 32 := Scalar.extui v71
  let c0_i32_21 : BitVec 32 := 0#32
  let v73 : BitVec 1 := Scalar.cmpi .slt c2_i32 c0_i32_21
  let v74 : BitVec 32 := Scalar.extui v73
  let v75 : BitVec 32 := Scalar.subi v72 v74
  let v76 : BitVec 1 := Scalar.cmpi .ne v70 v75
  let v77 : BitVec 32 := Scalar.remsi v53 c2_i32
  let c0_i32_22 : BitVec 32 := 0#32
  let v78 : BitVec 1 := Scalar.cmpi .ne v77 c0_i32_22
  let v79 : BitVec 1 := Scalar.andi v76 v78
  let c1_i32_23 : BitVec 32 := 1#32
  let v80 : BitVec 32 := Scalar.subi v65 c1_i32_23
  let v81 : BitVec 32 := Scalar.select v79 v80 v65
  let c2_i32_24 : BitVec 32 := 2#32
  let v82 : BitVec 32 := Scalar.divsi v53 c2_i32_24
  let c0_i32_25 : BitVec 32 := 0#32
  let v83 : BitVec 1 := Scalar.cmpi .sgt v53 c0_i32_25
  let v84 : BitVec 32 := Scalar.extui v83
  let c0_i32_26 : BitVec 32 := 0#32
  let v85 : BitVec 1 := Scalar.cmpi .slt v53 c0_i32_26
  let v86 : BitVec 32 := Scalar.extui v85
  let v87 : BitVec 32 := Scalar.subi v84 v86
  let c0_i32_27 : BitVec 32 := 0#32
  let v88 : BitVec 1 := Scalar.cmpi .sgt c2_i32_24 c0_i32_27
  let v89 : BitVec 32 := Scalar.extui v88
  let c0_i32_28 : BitVec 32 := 0#32
  let v90 : BitVec 1 := Scalar.cmpi .slt c2_i32_24 c0_i32_28
  let v91 : BitVec 32 := Scalar.extui v90
  let v92 : BitVec 32 := Scalar.subi v89 v91
  let v93 : BitVec 1 := Scalar.cmpi .ne v87 v92
  let v94 : BitVec 32 := Scalar.remsi v53 c2_i32_24
  let c0_i32_29 : BitVec 32 := 0#32
  let v95 : BitVec 1 := Scalar.cmpi .ne v94 c0_i32_29
  let v96 : BitVec 1 := Scalar.andi v93 v95
  let c1_i32_30 : BitVec 32 := 1#32
  let v97 : BitVec 32 := Scalar.subi v82 c1_i32_30
  let v98 : BitVec 32 := Scalar.select v96 v97 v82
  let v99 : BitVec 1 := Scalar.cmpi .sge v63 v98
  let v100 : BitVec 32 := Scalar.extui v99
  let v101 : BitVec 32 := Scalar.addi v63 v100
  let v102 : BitVec 32 := Scalar.select v64 v81 v101
  let c36_i32_31 : BitVec 32 := 36#32
  let v103 : BitVec 1 := Scalar.cmpi .sge arg0 c36_i32_31
  let v104 : BitVec 32 := Scalar.extui v103
  let c0_i32_32 : BitVec 32 := 0#32
  let v105 : BitVec 32 := Scalar.addi c0_i32_32 v104
  let c39_i32_33 : BitVec 32 := 39#32
  let v106 : BitVec 1 := Scalar.cmpi .sge arg0 c39_i32_33
  let v107 : BitVec 32 := Scalar.extui v106
  let v108 : BitVec 32 := Scalar.addi v105 v107
  let c42_i32_34 : BitVec 32 := 42#32
  let v109 : BitVec 1 := Scalar.cmpi .sge arg0 c42_i32_34
  let v110 : BitVec 32 := Scalar.extui v109
  let v111 : BitVec 32 := Scalar.addi v108 v110
  let c44_i32_35 : BitVec 32 := 44#32
  let v112 : BitVec 1 := Scalar.cmpi .sge arg0 c44_i32_35
  let v113 : BitVec 32 := Scalar.extui v112
  let v114 : BitVec 32 := Scalar.addi v111 v113
  let c46_i32_36 : BitVec 32 := 46#32
  let v115 : BitVec 1 := Scalar.cmpi .sge arg0 c46_i32_36
  let v116 : BitVec 32 := Scalar.extui v115
  let v117 : BitVec 32 := Scalar.addi v114 v116
  let c47_i32_37 : BitVec 32 := 47#32
  let v118 : BitVec 1 := Scalar.cmpi .sge arg0 c47_i32_37
  let v119 : BitVec 32 := Scalar.extui v118
  let v120 : BitVec 32 := Scalar.addi v117 v119
  let c32_i32_38 : BitVec 32 := 32#32
  let v121 : BitVec 1 := Scalar.cmpi .slt arg0 c32_i32_38
  let c4_i32_39 : BitVec 32 := 4#32
  let v122 : BitVec 32 := Scalar.divsi arg0 c4_i32_39
  let c0_i32_40 : BitVec 32 := 0#32
  let v123 : BitVec 1 := Scalar.cmpi .sgt arg0 c0_i32_40
  let v124 : BitVec 32 := Scalar.extui v123
  let c0_i32_41 : BitVec 32 := 0#32
  let v125 : BitVec 1 := Scalar.cmpi .slt arg0 c0_i32_41
  let v126 : BitVec 32 := Scalar.extui v125
  let v127 : BitVec 32 := Scalar.subi v124 v126
  let c0_i32_42 : BitVec 32 := 0#32
  let v128 : BitVec 1 := Scalar.cmpi .sgt c4_i32_39 c0_i32_42
  let v129 : BitVec 32 := Scalar.extui v128
  let c0_i32_43 : BitVec 32 := 0#32
  let v130 : BitVec 1 := Scalar.cmpi .slt c4_i32_39 c0_i32_43
  let v131 : BitVec 32 := Scalar.extui v130
  let v132 : BitVec 32 := Scalar.subi v129 v131
  let v133 : BitVec 1 := Scalar.cmpi .ne v127 v132
  let v134 : BitVec 32 := Scalar.remsi arg0 c4_i32_39
  let c0_i32_44 : BitVec 32 := 0#32
  let v135 : BitVec 1 := Scalar.cmpi .ne v134 c0_i32_44
  let v136 : BitVec 1 := Scalar.andi v133 v135
  let c1_i32_45 : BitVec 32 := 1#32
  let v137 : BitVec 32 := Scalar.subi v122 c1_i32_45
  let v138 : BitVec 32 := Scalar.select v136 v137 v122
  let v139 : BitVec 32 := Scalar.select v121 v138 v120
  let c0_i32_46 : BitVec 32 := 0#32
  let v140 : BitVec 1 := Scalar.cmpi .eq v139 c0_i32_46
  let c32_i32_47 : BitVec 32 := 32#32
  let c0_i32_48 : BitVec 32 := 0#32
  let v141 : BitVec 32 := Scalar.select v140 c32_i32_47 c0_i32_48
  let c0_i32_49 : BitVec 32 := 0#32
  let v142 : BitVec 32 := Scalar.addi c0_i32_49 v141
  let c1_i32_50 : BitVec 32 := 1#32
  let v143 : BitVec 1 := Scalar.cmpi .eq v139 c1_i32_50
  let c36_i32_51 : BitVec 32 := 36#32
  let c0_i32_52 : BitVec 32 := 0#32
  let v144 : BitVec 32 := Scalar.select v143 c36_i32_51 c0_i32_52
  let v145 : BitVec 32 := Scalar.addi v142 v144
  let c2_i32_53 : BitVec 32 := 2#32
  let v146 : BitVec 1 := Scalar.cmpi .eq v139 c2_i32_53
  let c39_i32_54 : BitVec 32 := 39#32
  let c0_i32_55 : BitVec 32 := 0#32
  let v147 : BitVec 32 := Scalar.select v146 c39_i32_54 c0_i32_55
  let v148 : BitVec 32 := Scalar.addi v145 v147
  let c3_i32_56 : BitVec 32 := 3#32
  let v149 : BitVec 1 := Scalar.cmpi .eq v139 c3_i32_56
  let c42_i32_57 : BitVec 32 := 42#32
  let c0_i32_58 : BitVec 32 := 0#32
  let v150 : BitVec 32 := Scalar.select v149 c42_i32_57 c0_i32_58
  let v151 : BitVec 32 := Scalar.addi v148 v150
  let c4_i32_59 : BitVec 32 := 4#32
  let v152 : BitVec 1 := Scalar.cmpi .eq v139 c4_i32_59
  let c44_i32_60 : BitVec 32 := 44#32
  let c0_i32_61 : BitVec 32 := 0#32
  let v153 : BitVec 32 := Scalar.select v152 c44_i32_60 c0_i32_61
  let v154 : BitVec 32 := Scalar.addi v151 v153
  let c5_i32 : BitVec 32 := 5#32
  let v155 : BitVec 1 := Scalar.cmpi .eq v139 c5_i32
  let c46_i32_62 : BitVec 32 := 46#32
  let c0_i32_63 : BitVec 32 := 0#32
  let v156 : BitVec 32 := Scalar.select v155 c46_i32_62 c0_i32_63
  let v157 : BitVec 32 := Scalar.addi v154 v156
  let c6_i32 : BitVec 32 := 6#32
  let v158 : BitVec 1 := Scalar.cmpi .eq v139 c6_i32
  let c47_i32_64 : BitVec 32 := 47#32
  let c0_i32_65 : BitVec 32 := 0#32
  let v159 : BitVec 32 := Scalar.select v158 c47_i32_64 c0_i32_65
  let v160 : BitVec 32 := Scalar.addi v157 v159
  let c32_i32_66 : BitVec 32 := 32#32
  let v161 : BitVec 1 := Scalar.cmpi .slt arg0 c32_i32_66
  let c1_i32_67 : BitVec 32 := 1#32
  let v162 : BitVec 32 := Scalar.addi v139 c1_i32_67
  let c2_i32_68 : BitVec 32 := 2#32
  let v163 : BitVec 32 := Scalar.divsi v162 c2_i32_68
  let c0_i32_69 : BitVec 32 := 0#32
  let v164 : BitVec 1 := Scalar.cmpi .sgt v162 c0_i32_69
  let v165 : BitVec 32 := Scalar.extui v164
  let c0_i32_70 : BitVec 32 := 0#32
  let v166 : BitVec 1 := Scalar.cmpi .slt v162 c0_i32_70
  let v167 : BitVec 32 := Scalar.extui v166
  let v168 : BitVec 32 := Scalar.subi v165 v167
  let c0_i32_71 : BitVec 32 := 0#32
  let v169 : BitVec 1 := Scalar.cmpi .sgt c2_i32_68 c0_i32_71
  let v170 : BitVec 32 := Scalar.extui v169
  let c0_i32_72 : BitVec 32 := 0#32
  let v171 : BitVec 1 := Scalar.cmpi .slt c2_i32_68 c0_i32_72
  let v172 : BitVec 32 := Scalar.extui v171
  let v173 : BitVec 32 := Scalar.subi v170 v172
  let v174 : BitVec 1 := Scalar.cmpi .ne v168 v173
  let v175 : BitVec 32 := Scalar.remsi v162 c2_i32_68
  let c0_i32_73 : BitVec 32 := 0#32
  let v176 : BitVec 1 := Scalar.cmpi .ne v175 c0_i32_73
  let v177 : BitVec 1 := Scalar.andi v174 v176
  let c1_i32_74 : BitVec 32 := 1#32
  let v178 : BitVec 32 := Scalar.subi v163 c1_i32_74
  let v179 : BitVec 32 := Scalar.select v177 v178 v163
  let v180 : BitVec 32 := Scalar.addi v179 arg0
  let v181 : BitVec 32 := Scalar.subi v180 v160
  let v182 : BitVec 32 := Scalar.select v161 v102 v181
  let c0_i32_75 : BitVec 32 := 0#32
  ![v36.toNat, v182.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c32_i32 : BitVec 32 := 32#32
  let v0 : BitVec 1 := Scalar.cmpi .slt arg0 c32_i32
  let c36_i32 : BitVec 32 := 36#32
  let v1 : BitVec 1 := Scalar.cmpi .sge arg0 c36_i32
  let v2 : BitVec 32 := Scalar.extui v1
  let c0_i32 : BitVec 32 := 0#32
  let v3 : BitVec 32 := Scalar.addi c0_i32 v2
  let c39_i32 : BitVec 32 := 39#32
  let v4 : BitVec 1 := Scalar.cmpi .sge arg0 c39_i32
  let v5 : BitVec 32 := Scalar.extui v4
  let v6 : BitVec 32 := Scalar.addi v3 v5
  let c42_i32 : BitVec 32 := 42#32
  let v7 : BitVec 1 := Scalar.cmpi .sge arg0 c42_i32
  let v8 : BitVec 32 := Scalar.extui v7
  let v9 : BitVec 32 := Scalar.addi v6 v8
  let c44_i32 : BitVec 32 := 44#32
  let v10 : BitVec 1 := Scalar.cmpi .sge arg0 c44_i32
  let v11 : BitVec 32 := Scalar.extui v10
  let v12 : BitVec 32 := Scalar.addi v9 v11
  let c46_i32 : BitVec 32 := 46#32
  let v13 : BitVec 1 := Scalar.cmpi .sge arg0 c46_i32
  let v14 : BitVec 32 := Scalar.extui v13
  let v15 : BitVec 32 := Scalar.addi v12 v14
  let c47_i32 : BitVec 32 := 47#32
  let v16 : BitVec 1 := Scalar.cmpi .sge arg0 c47_i32
  let v17 : BitVec 32 := Scalar.extui v16
  let v18 : BitVec 32 := Scalar.addi v15 v17
  let c32_i32_0 : BitVec 32 := 32#32
  let v19 : BitVec 1 := Scalar.cmpi .slt arg0 c32_i32_0
  let c4_i32 : BitVec 32 := 4#32
  let v20 : BitVec 32 := Scalar.divsi arg0 c4_i32
  let c0_i32_1 : BitVec 32 := 0#32
  let v21 : BitVec 1 := Scalar.cmpi .sgt arg0 c0_i32_1
  let v22 : BitVec 32 := Scalar.extui v21
  let c0_i32_2 : BitVec 32 := 0#32
  let v23 : BitVec 1 := Scalar.cmpi .slt arg0 c0_i32_2
  let v24 : BitVec 32 := Scalar.extui v23
  let v25 : BitVec 32 := Scalar.subi v22 v24
  let c0_i32_3 : BitVec 32 := 0#32
  let v26 : BitVec 1 := Scalar.cmpi .sgt c4_i32 c0_i32_3
  let v27 : BitVec 32 := Scalar.extui v26
  let c0_i32_4 : BitVec 32 := 0#32
  let v28 : BitVec 1 := Scalar.cmpi .slt c4_i32 c0_i32_4
  let v29 : BitVec 32 := Scalar.extui v28
  let v30 : BitVec 32 := Scalar.subi v27 v29
  let v31 : BitVec 1 := Scalar.cmpi .ne v25 v30
  let v32 : BitVec 32 := Scalar.remsi arg0 c4_i32
  let c0_i32_5 : BitVec 32 := 0#32
  let v33 : BitVec 1 := Scalar.cmpi .ne v32 c0_i32_5
  let v34 : BitVec 1 := Scalar.andi v31 v33
  let c1_i32 : BitVec 32 := 1#32
  let v35 : BitVec 32 := Scalar.subi v20 c1_i32
  let v36 : BitVec 32 := Scalar.select v34 v35 v20
  let v37 : BitVec 32 := Scalar.select v19 v36 v18
  let c7_i32 : BitVec 32 := 7#32
  let v38 : BitVec 32 := Scalar.select v0 c7_i32 v37
  let c0_i32_6 : BitVec 32 := 0#32
  let c0_i32_7 : BitVec 32 := 0#32
  ![v38.toNat, c0_i32_6.toNat]

abbrev stage0_0 : Fin 2 → Memref sig .tc .vmem S1280x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1280x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1280x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x10000x32 : Shape := ⟨3, ![4, 10000, 32]⟩
abbrev S10000x10000 : Shape := ⟨2, ![10000, 10000]⟩
abbrev S4x3x32x32 : Shape := ⟨4, ![4, 3, 32, 32]⟩
abbrev S4x32 : Shape := ⟨2, ![4, 32]⟩
abbrev S4x1x32x32 : Shape := ⟨4, ![4, 1, 32, 32]⟩
abbrev S4x32x32 : Shape := ⟨3, ![4, 32, 32]⟩
abbrev S10000x4x32 : Shape := ⟨3, ![10000, 4, 32]⟩
abbrev S10000x128 : Shape := ⟨2, ![10000, 128]⟩
abbrev S_ : Shape := ⟨0, ![]⟩
abbrev S4x1x32 : Shape := ⟨3, ![4, 1, 32]⟩

abbrev nBuf : Space → Nat
  | .hbm => 32
  | .vmem => 0
  | .smem => 0
  | _ => 0

abbrev bufTy : (tb : Table) → Fin (tcTables nBuf tb) → BufTy
  | .hbm, ⟨0, _⟩ => ⟨S4x10000x32, .f32⟩
  | .hbm, ⟨1, _⟩ => ⟨S10000x10000, .f32⟩
  | .hbm, ⟨2, _⟩ => ⟨S4x3x32x32, .f32⟩
  | .hbm, ⟨3, _⟩ => ⟨S4x32, .f32⟩
  | .hbm, ⟨4, _⟩ => ⟨S4x1x32x32, .f32⟩
  | .hbm, ⟨5, _⟩ => ⟨S4x32x32, .f32⟩
  | .hbm, ⟨6, _⟩ => ⟨S4x10000x32, .f32⟩
  | .hbm, ⟨7, _⟩ => ⟨S10000x4x32, .f32⟩
  | .hbm, ⟨8, _⟩ => ⟨S10000x128, .f32⟩
  | .hbm, ⟨9, _⟩ => ⟨S10000x128, .f32⟩
  | .hbm, ⟨10, _⟩ => ⟨S10000x4x32, .f32⟩
  | .hbm, ⟨11, _⟩ => ⟨S4x10000x32, .f32⟩
  | .hbm, ⟨12, _⟩ => ⟨S4x1x32x32, .f32⟩
  | .hbm, ⟨13, _⟩ => ⟨S4x32x32, .f32⟩
  | .hbm, ⟨14, _⟩ => ⟨S4x10000x32, .f32⟩
  | .hbm, ⟨15, _⟩ => ⟨S4x10000x32, .f32⟩
  | .hbm, ⟨16, _⟩ => ⟨S10000x4x32, .f32⟩
  | .hbm, ⟨17, _⟩ => ⟨S10000x128, .f32⟩
  | .hbm, ⟨18, _⟩ => ⟨S10000x128, .f32⟩
  | .hbm, ⟨19, _⟩ => ⟨S10000x4x32, .f32⟩
  | .hbm, ⟨20, _⟩ => ⟨S4x10000x32, .f32⟩
  | .hbm, ⟨21, _⟩ => ⟨S_, .f32⟩
  | .hbm, ⟨22, _⟩ => ⟨S4x10000x32, .f32⟩
  | .hbm, ⟨23, _⟩ => ⟨S4x10000x32, .f32⟩
  | .hbm, ⟨24, _⟩ => ⟨S4x10000x32, .f32⟩
  | .hbm, ⟨25, _⟩ => ⟨S4x1x32x32, .f32⟩
  | .hbm, ⟨26, _⟩ => ⟨S4x32x32, .f32⟩
  | .hbm, ⟨27, _⟩ => ⟨S4x10000x32, .f32⟩
  | .hbm, ⟨28, _⟩ => ⟨S4x10000x32, .f32⟩
  | .hbm, ⟨29, _⟩ => ⟨S4x1x32, .f32⟩
  | .hbm, ⟨30, _⟩ => ⟨S4x10000x32, .f32⟩
  | .hbm, ⟨31, _⟩ => ⟨S4x10000x32, .f32⟩
  | _, _ => ⟨S4x10000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== Proof.Tabs.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic
public import Idealize.ShloMosaic.Lib.Pipeline.FrameSuffix

@[expose] public section

set_option maxRecDepth 16384

noncomputable section

namespace Cert.KernelIdeal.Hand

open Idealize.ShloMosaic Idealize.ShloMosaic.TcCoe Idealize.ShloMosaic.Pipeline
open Idealize.SL Idealize.SL.RA Idealize.SL.BI Idealize.SL.Sem
open scoped Idealize.SL.BI
open Idealize.SL.BI.BIBase
open Cert.KernelIdeal Cert.KernelIdeal.Gen

variable {F : FTy → Type} [FloatOps F]

local notation "𝕄" => MT nD τ sig Unit (Elt F) ℕ (UR sig nD τ) ℕ

/-- No call of this program is recursive. -/
abbrev 𝒱₀ : Variants := Variants.none

/-- The word of a 48-entry table that grid point `i` reads. -/
abbrev tw (c : Dev nD) (M : Memref sig .tc .smem S48 .i32) (f : Buf (Elt F) (M.view.loc (c : Thread nD τ))) (i : grid0.Coords) : BitVec 32 :=
  View.readAt (Elt F) M.view (Rect.unit (s := S48) (k0_off1 i) S1.size (k0_off1_inb i)).toLoadRect f (Shape.Idx.first (Nat.lt_of_lt_of_eq Nat.zero_lt_one numel1_S1.symm))

/-! ## The checks the body makes, at the tables' words -/

theorem chk1_lit : ∀ i : grid0.Coords, k0_chk1 i (lit0 (i 0)) (lit1 (i 0)) := by decide +kernel
theorem chk2_lit : ∀ i : grid0.Coords, k0_chk2 i (lit0 (i 0)) (lit1 (i 0)) (lit2 (i 0)) := by decide +kernel
theorem chk3_lit : ∀ i : grid0.Coords, k0_chk3 i (lit0 (i 0)) (lit1 (i 0)) (lit2 (i 0)) (lit3 (i 0)) := by decide +kernel
theorem chk5_lit : ∀ i : grid0.Coords, k0_chk5 i (lit1 (i 0)) (lit3 (i 0)) (lit4 (i 0)) := by decide +kernel
theorem chk4_lit : ∀ i : grid0.Coords, k0_chk4 i (lit1 (i 0)) (lit3 (i 0)) (lit5 (i 0)) := by decide +kernel

/-- A table that holds `w` at every index gives grid point `i` the word at `i`. -/
theorem tw_whole (c : Dev nD) (M : Memref sig .tc .smem S48 .i32) (f : Buf (Elt F) (M.view.loc (c : Thread nD τ))) (w : Fin 48 → BitVec 32)
    (h : M.view.read (Elt F) f = fun i => w (S48.rowMajor i)) (i : grid0.Coords) : tw c M f i = w (i 0) := by
  show M.view.read (Elt F) f _ = _
  rw [h]
  refine congrArg w (Fin.ext ?_)
  rw [Shape.rowMajor_val_one]
  show (k0_off1 i) 0 + 1 * 0 = (i 0).val
  rw [k0_off1_eq]; simp

end Cert.KernelIdeal.Hand
end
-- ==== Proof.BodyRuns.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic
public import Idealize.ShloMosaic.Lib.Pipeline.FrameSuffix
public import proofs.«01_k».proof.Proof.Tabs

@[expose] public section

set_option maxRecDepth 16384

noncomputable section

namespace Cert.KernelIdeal.Hand

open Idealize.ShloMosaic Idealize.ShloMosaic.TcCoe Idealize.ShloMosaic.Pipeline
open Idealize.SL Idealize.SL.RA Idealize.SL.BI Idealize.SL.Sem
open scoped Idealize.SL.BI
open Idealize.SL.BI.BIBase
open Cert.KernelIdeal Cert.KernelIdeal.Gen

variable {F : FTy → Type} [FloatOps F]

local notation "𝕄" => MT nD τ sig Unit (Elt F) ℕ (UR sig nD τ) ℕ

/-- What the body's sixteen buffers hold: the six tables and the four operands, the output's staging buffer and the five
    scratch buffers. The tables are held at the share `q`, everything else whole. -/
def Held (c : Dev nD) (q : PosShare TreeShare)
    (M1 : Memref sig .tc .smem S48 .i32)    (M2 : Memref sig .tc .smem S48 .i32)    (M3 : Memref sig .tc .smem S48 .i32)    (M4 : Memref sig .tc .smem S48 .i32)    (M5 : Memref sig .tc .smem S48 .i32)    (M6 : Memref sig .tc .smem S48 .i32)
    (M7 : Memref sig .tc .vmem S1280x2560 .f32)
    (M8 : Memref sig .tc .vmem S8x1280x128 .f32)
    (M9 : Memref sig .tc .vmem S3x128x128 .f32)
    (M10 : Memref sig .tc .vmem S1x128 .f32)
    (M11 : Memref sig .tc .vmem S1280x128 .f32)
    (M12 : Memref sig .tc .vmem S8x1280x128 .f32)
    (M13 : Memref sig .tc .vmem S8x1280x128 .f32)
    (M14 : Memref sig .tc .vmem S1280x128 .f32)
    (M15 : Memref sig .tc .vmem S1280x128 .f32)
    (M16 : Memref sig .tc .vmem S1280x128 .f32)
    (f1 : Buf (Elt F) (M1.view.loc (c : Thread nD τ)))
    (f2 : Buf (Elt F) (M2.view.loc (c : Thread nD τ)))
    (f3 : Buf (Elt F) (M3.view.loc (c : Thread nD τ)))
    (f4 : Buf (Elt F) (M4.view.loc (c : Thread nD τ)))
    (f5 : Buf (Elt F) (M5.view.loc (c : Thread nD τ)))
    (f6 : Buf (Elt F) (M6.view.loc (c : Thread nD τ)))
    (f7 : Buf (Elt F) (M7.view.loc (c : Thread nD τ)))
    (f8 : Buf (Elt F) (M8.view.loc (c : Thread nD τ)))
    (f9 : Buf (Elt F) (M9.view.loc (c : Thread nD τ)))
    (f10 : Buf (Elt F) (M10.view.loc (c : Thread nD τ)))
    (f11 : Buf (Elt F) (M11.view.loc (c : Thread nD τ)))
    (f12 : Buf (Elt F) (M12.view.loc (c : Thread nD τ)))
    (f13 : Buf (Elt F) (M13.view.loc (c : Thread nD τ)))
    (f14 : Buf (Elt F) (M14.view.loc (c : Thread nD τ)))
    (f15 : Buf (Elt F) (M15.view.loc (c : Thread nD τ)))
    (f16 : Buf (Elt F) (M16.view.loc (c : Thread nD τ)))
    : sProp 𝕄 :=
  iprop((M1.view.loc (c : Thread nD τ) ↦{q} f1)
      ∗ (M2.view.loc (c : Thread nD τ) ↦{q} f2)
      ∗ (M3.view.loc (c : Thread nD τ) ↦{q} f3)
      ∗ (M4.view.loc (c : Thread nD τ) ↦{q} f4)
      ∗ (M5.view.loc (c : Thread nD τ) ↦{q} f5)
      ∗ (M6.view.loc (c : Thread nD τ) ↦{q} f6)
      ∗ (M7.view.loc (c : Thread nD τ) ↦{fullShare} f7)
      ∗ (M8.view.loc (c : Thread nD τ) ↦{fullShare} f8)
      ∗ (M9.view.loc (c : Thread nD τ) ↦{fullShare} f9)
      ∗ (M10.view.loc (c : Thread nD τ) ↦{fullShare} f10)
      ∗ (M11.view.loc (c : Thread nD τ) ↦{fullShare} f11)
      ∗ (M12.view.loc (c : Thread nD τ) ↦{fullShare} f12)
      ∗ (M13.view.loc (c : Thread nD τ) ↦{fullShare} f13)
      ∗ (M14.view.loc (c : Thread nD τ) ↦{fullShare} f14)
      ∗ (M15.view.loc (c : Thread nD τ) ↦{fullShare} f15)
      ∗ (M16.view.loc (c : Thread nD τ) ↦{fullShare} f16))

variable (c : Dev nD) (i : grid0.Coords) (E : Set ℕ) (q : PosShare TreeShare)
  (M1 : Memref sig .tc .smem S48 .i32) (h1 : M1.IsWhole)
  (M2 : Memref sig .tc .smem S48 .i32) (h2 : M2.IsWhole)
  (M3 : Memref sig .tc .smem S48 .i32) (h3 : M3.IsWhole)
  (M4 : Memref sig .tc .smem S48 .i32) (h4 : M4.IsWhole)
  (M5 : Memref sig .tc .smem S48 .i32) (h5 : M5.IsWhole)
  (M6 : Memref sig .tc .smem S48 .i32) (h6 : M6.IsWhole)
  (M7 : Memref sig .tc .vmem S1280x2560 .f32) (h7 : M7.IsWhole)
  (M8 : Memref sig .tc .vmem S8x1280x128 .f32) (h8 : M8.IsWhole)
  (M9 : Memref sig .tc .vmem S3x128x128 .f32) (h9 : M9.IsWhole)
  (M10 : Memref sig .tc .vmem S1x128 .f32) (h10 : M10.IsWhole)
  (M11 : Memref sig .tc .vmem S1280x128 .f32) (h11 : M11.IsWhole)
  (M12 : Memref sig .tc .vmem S8x1280x128 .f32) (h12 : M12.IsWhole)
  (M13 : Memref sig .tc .vmem S8x1280x128 .f32) (h13 : M13.IsWhole)
  (M14 : Memref sig .tc .vmem S1280x128 .f32) (h14 : M14.IsWhole)
  (M15 : Memref sig .tc .vmem S1280x128 .f32) (h15 : M15.IsWhole)
  (M16 : Memref sig .tc .vmem S1280x128 .f32) (h16 : M16.IsWhole)
  (f1 : Buf (Elt F) (M1.view.loc (c : Thread nD τ)))
  (f2 : Buf (Elt F) (M2.view.loc (c : Thread nD τ)))
  (f3 : Buf (Elt F) (M3.view.loc (c : Thread nD τ)))
  (f4 : Buf (Elt F) (M4.view.loc (c : Thread nD τ)))
  (f5 : Buf (Elt F) (M5.view.loc (c : Thread nD τ)))
  (f6 : Buf (Elt F) (M6.view.loc (c : Thread nD τ)))
  (f7 : Buf (Elt F) (M7.view.loc (c : Thread nD τ)))
  (f8 : Buf (Elt F) (M8.view.loc (c : Thread nD τ)))
  (f9 : Buf (Elt F) (M9.view.loc (c : Thread nD τ)))
  (f10 : Buf (Elt F) (M10.view.loc (c : Thread nD τ)))
  (f11 : Buf (Elt F) (M11.view.loc (c : Thread nD τ)))
  (f12 : Buf (Elt F) (M12.view.loc (c : Thread nD τ)))
  (f13 : Buf (Elt F) (M13.view.loc (c : Thread nD τ)))
  (f14 : Buf (Elt F) (M14.view.loc (c : Thread nD τ)))
  (f15 : Buf (Elt F) (M15.view.loc (c : Thread nD τ)))
  (f16 : Buf (Elt F) (M16.view.loc (c : Thread nD τ)))

set_option maxHeartbeats 2000000 in
/-- The body runs at any contents of its buffers for which its bounds checks hold, and gives every one of them back: the
    tables and the operands as they were, the others at some contents. -/
theorem body_runs
    (k1 : k0_chk1 i (tw c M1 f1 i) (tw c M2 f2 i)) (k2 : k0_chk2 i (tw c M1 f1 i) (tw c M2 f2 i) (tw c M3 f3 i))
    (k3 : k0_chk3 i (tw c M1 f1 i) (tw c M2 f2 i) (tw c M3 f3 i) (tw c M4 f4 i)) (k5 : k0_chk5 i (tw c M2 f2 i) (tw c M4 f4 i) (tw c M5 f5 i))
    (k4 : k0_chk4 i (tw c M2 f2 i) (tw c M4 f4 i) (tw c M6 f6 i))
    (K : PUnit → sProp 𝕄) :
    iprop(Held c q M1 M2 M3 M4 M5 M6 M7 M8 M9 M10 M11 M12 M13 M14 M15 M16 f1 f2 f3 f4 f5 f6 f7 f8 f9 f10 f11 f12 f13 f14 f15 f16
      ∗ (∀ (g11 : Buf (Elt F) (M11.view.loc (c : Thread nD τ))) (g12 : Buf (Elt F) (M12.view.loc (c : Thread nD τ))) (g13 : Buf (Elt F) (M13.view.loc (c : Thread nD τ))) (g14 : Buf (Elt F) (M14.view.loc (c : Thread nD τ))) (g15 : Buf (Elt F) (M15.view.loc (c : Thread nD τ))) (g16 : Buf (Elt F) (M16.view.loc (c : Thread nD τ))),
          Held c q M1 M2 M3 M4 M5 M6 M7 M8 M9 M10 M11 M12 M13 M14 M15 M16 f1 f2 f3 f4 f5 f6 f7 f8 f9 f10 g11 g12 g13 g14 g15 g16 -∗ K ⟨⟩))
      ⊢ wp frame (wpE (defs₀ (F := F)) 𝒱₀ c none) E
          (cc0__body i M1 h1 M2 h2 M3 h3 M4 h4 M5 h5 M6 h6 M7 h7 M8 h8 M9 h9 M10 h10 M11 h11 M12 h12 M13 h13 M14 h14 M15 h15 M16 h16) K := by
  simp only [cc0__body_eq_skeleton]; unfold cc0__body_skel Held
  iintro ⟨⟨H1, H2, H3, H4, H5, H6, H7, H8, H9, H10, H11, H12, H13, H14, H15, H16⟩, Hk⟩
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end Cert.KernelIdeal.Hand
end
-- ==== Proof.Frame.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic
public import Idealize.ShloMosaic.Lib.Pipeline.FrameSuffix
public import proofs.«01_k».proof.Proof.BodyRuns

@[expose] public section

set_option maxRecDepth 16384

noncomputable section

namespace Cert.KernelIdeal.Hand

open Idealize.ShloMosaic Idealize.ShloMosaic.TcCoe Idealize.ShloMosaic.Pipeline
open Idealize.SL Idealize.SL.RA Idealize.SL.BI Idealize.SL.Sem
open scoped Idealize.SL.BI
open Idealize.SL.BI.BIBase
open Cert.KernelIdeal Cert.KernelIdeal.Gen

variable {F : FTy → Type} [FloatOps F]

local notation "𝕄" => MT nD τ sig Unit (Elt F) ℕ (UR sig nD τ) ℕ

/-- The six tables' contents. -/
def tabs : pre0.Contents (Elt F) := fun
  | 0 => fun i => lit0 (S48.rowMajor i)
  | 1 => fun i => lit1 (S48.rowMajor i)
  | 2 => fun i => lit2 (S48.rowMajor i)
  | 3 => fun i => lit3 (S48.rowMajor i)
  | 4 => fun i => lit4 (S48.rowMajor i)
  | 5 => fun i => lit5 (S48.rowMajor i)

/-- The call's tables, which it admits whatever they hold. -/
def adm : (p : Fin 1) → (pcfgs (F := F) p).Adm := fun _ => ⟨tabs, trivial⟩

variable (m : (ℓ : Loc nD τ sig) → Buf (Elt F) ℓ) (ρ : Dev nD → PrngReg)

/-- A device's buffers when the call begins: after the host operations before it. -/
def V₀ (c : Dev nD) : Valuation τ sig (Elt F) := StableHlo.after hostOps0 (fun b => m (c, b))

/-- What the frame says of the call: the arrays as the host operations left them, the invariant the scratch buffers at some
    contents and the tables; no window's contents are named. -/
def dats (p : Fin 1) (c : Dev nD) : Pipeline.Dat τ (Elt F) Unit ℕ (UR sig nD τ) ℕ (Pipeline.pin (pcfgs (F := F)) adm p) c where
  A w := V₀ m c (Proc.devRef .tc (arrRef spec0 w))
  after w t := fun _ => Classical.arbitrary _
  Φ _ := iprop(ΦA spec0 c ∗ ΦT pre0 tabs c)
  q _ := fullShare
  owed _ := 0

/-- The six tables, one by one. -/
theorem tables_eq (c : Dev nD) (q : PosShare TreeShare) (v : pre0.Contents (Elt F)) :
    (Pipeline.prefHeld pre0 c (fun _ => q) v : sProp 𝕄)
      = iprop(((Memref.whole main_call0_c : Memref sig .tc _ _ _).view.loc (c : Thread nD τ) ↦{q} v 0)
          ∗ ((Memref.whole main_call0_c_0 : Memref sig .tc _ _ _).view.loc (c : Thread nD τ) ↦{q} v 1)
          ∗ ((Memref.whole main_call0_c_1 : Memref sig .tc _ _ _).view.loc (c : Thread nD τ) ↦{q} v 2)
          ∗ ((Memref.whole main_call0_c_2 : Memref sig .tc _ _ _).view.loc (c : Thread nD τ) ↦{q} v 3)
          ∗ ((Memref.whole main_call0_c_3 : Memref sig .tc _ _ _).view.loc (c : Thread nD τ) ↦{q} v 4)
          ∗ ((Memref.whole main_call0_c_4 : Memref sig .tc _ _ _).view.loc (c : Thread nD τ) ↦{q} v 5)) := by
  unfold Pipeline.prefHeld
  rw [show (Finset.univ : Finset (Fin 6)) = {0, 1, 2, 3, 4, 5} from by decide, bigSep_insert (by decide), bigSep_insert (by decide),
    bigSep_insert (by decide), bigSep_insert (by decide), bigSep_insert (by decide), bigSep_singleton]
  rfl

set_option maxHeartbeats 1000000 in
/-- The body keeps the frame's invariant at every grid point. -/
theorem body_obligation (c : Dev nD) :
    BodyObligationLoose (dats m 0 c) (defs₀ (F := F)) 𝒱₀ () Set.univ (fgt := fun _ => true) := fun t => by
  rw [bigSep_W0]
  simp only
  rw [show (dats m 0 c).owesAt () t.succ = (dats m 0 c).owesAt () t.castSucc from rfl,
    show (dats m 0 c).Φ t.castSucc = iprop(ΦA spec0 c ∗ ΦT pre0 tabs c) from rfl,
    show (dats m 0 c).Φ t.succ = iprop(ΦA spec0 c ∗ ΦT pre0 tabs c) from rfl]
  unfold ΦA ΦT
  rw [scopedRest0_eq, tables_eq]
  simp only [owns, fun s => (hstage0_0 s).set_eq_univ, fun s => (hstage0_1 s).set_eq_univ, fun s => (hstage0_2 s).set_eq_univ,
    fun s => (hstage0_3 s).set_eq_univ, fun s => (hstage0_4 s).set_eq_univ]
  iintro ⟨⟨⟨⟨⟨%g0, G0⟩, ⟨%g1, G1⟩, ⟨%g2, G2⟩, ⟨%g3, G3⟩, ⟨%g4, G4⟩⟩, ⟨%r, Hr⟩⟩, T1, T2, T3, T4, T5, T6⟩, Ho,
    ⟨%X0, %f0, -, H0⟩, ⟨%X1, %f1, -, H1⟩, ⟨%X2, %f2, -, H2⟩, ⟨%X3, %f3, -, H3⟩, ⟨%X4, %f4, -, H4⟩⟩
  have e1 := tw_whole (F := F) c (Memref.whole main_call0_c) (tabs 0) lit0 rfl (grid0.coords t)
  have e2 := tw_whole (F := F) c (Memref.whole main_call0_c_0) (tabs 1) lit1 rfl (grid0.coords t)
  have e3 := tw_whole (F := F) c (Memref.whole main_call0_c_1) (tabs 2) lit2 rfl (grid0.coords t)
  have e4 := tw_whole (F := F) c (Memref.whole main_call0_c_2) (tabs 3) lit3 rfl (grid0.coords t)
  have e5 := tw_whole (F := F) c (Memref.whole main_call0_c_3) (tabs 4) lit4 rfl (grid0.coords t)
  have e6 := tw_whole (F := F) c (Memref.whole main_call0_c_4) (tabs 5) lit5 rfl (grid0.coords t)
  iapply (body_runs c (grid0.coords t) Set.univ fullShare.right
    (Memref.whole main_call0_c) (Memref.isWhole_whole _) (Memref.whole main_call0_c_0) (Memref.isWhole_whole _)
    (Memref.whole main_call0_c_1) (Memref.isWhole_whole _) (Memref.whole main_call0_c_2) (Memref.isWhole_whole _)
    (Memref.whole main_call0_c_3) (Memref.isWhole_whole _) (Memref.whole main_call0_c_4) (Memref.isWhole_whole _)
    (spec0_0.stage ((cfg0 (adm 0)).slots t 0)) (hstage0_0 _) (spec0_1.stage ((cfg0 (adm 0)).slots t 1)) (hstage0_1 _)
    (spec0_2.stage ((cfg0 (adm 0)).slots t 2)) (hstage0_2 _) (spec0_3.stage ((cfg0 (adm 0)).slots t 3)) (hstage0_3 _)
    (spec0_4.stage ((cfg0 (adm 0)).slots t 4)) (hstage0_4 _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _)
    (tabs 0) (tabs 1) (tabs 2) (tabs 3) (tabs 4) (tabs 5) f0 f1 f2 f3 f4 g0 g1 g2 g3 g4
    (by rw [e1, e2]; exact chk1_lit _) (by rw [e1, e2, e3]; exact chk2_lit _) (by rw [e1, e2, e3, e4]; exact chk3_lit _)
    (by rw [e2, e4, e5]; exact chk5_lit _) (by rw [e2, e4, e6]; exact chk4_lit _))
  unfold Held
  isplitl [T1 T2 T3 T4 T5 T6 H0 H1 H2 H3 H4 G0 G1 G2 G3 G4]
  · isplitl [T1]; · iexact T1
    isplitl [T2]; · iexact T2
    isplitl [T3]; · iexact T3
    isplitl [T4]; · iexact T4
    isplitl [T5]; · iexact T5
    isplitl [T6]; · iexact T6
    isplitl [H0]; · iexact H0
    isplitl [H1]; · iexact H1
    isplitl [H2]; · iexact H2
    isplitl [H3]; · iexact H3
    isplitl [H4]; · iexact H4
    isplitl [G0]; · iexact G0
    isplitl [G1]; · iexact G1
    isplitl [G2]; · iexact G2
    isplitl [G3]; · iexact G3
    iexact G4
  iintro %k4 %l0 %l1 %l2 %l3 %l4 ⟨T1, T2, T3, T4, T5, T6, H0, H1, H2, H3, H4, G0, G1, G2, G3, G4⟩
  isplitl [T1 T2 T3 T4 T5 T6 G0 G1 G2 G3 G4 Hr]
  · isplitl [G0 G1 G2 G3 G4 Hr]
    · isplitl [G0 G1 G2 G3 G4]
      · isplitl [G0]; · iexists l0; iexact G0
        isplitl [G1]; · iexists l1; iexact G1
        isplitl [G2]; · iexists l2; iexact G2
        isplitl [G3]; · iexists l3; iexact G3
        iexists l4; iexact G4
      · iexists r; iexact Hr
    · isplitl [T1]; · iexact T1
      isplitl [T2]; · iexact T2
      isplitl [T3]; · iexact T3
      isplitl [T4]; · iexact T4
      isplitl [T5]; · iexact T5
      iexact T6
  isplitl [Ho]; · iexact Ho
  isplitl [H0]; · iexists _; iexists f0; isplitr; · ipureintro; exact rfl
                  iexact H0
  isplitl [H1]; · iexists _; iexists f1; isplitr; · ipureintro; exact rfl
                  iexact H1
  isplitl [H2]; · iexists _; iexists f2; isplitr; · ipureintro; exact rfl
                  iexact H2
  isplitl [H3]; · iexists _; iexists f3; isplitr; · ipureintro; exact rfl
                  iexact H3
  iexists _; iexists k4; isplitr; · ipureintro; exact rfl
  iexact H4

end Cert.KernelIdeal.Hand
end
-- ==== Proof.FrameRun.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic
public import Idealize.ShloMosaic.Lib.Pipeline.FrameSuffix
public import proofs.«01_k».proof.Proof.Frame

@[expose] public section

set_option maxRecDepth 16384

noncomputable section

namespace Cert.KernelIdeal.Hand

open Idealize.ShloMosaic Idealize.ShloMosaic.TcCoe Idealize.ShloMosaic.Pipeline
open Idealize.SL Idealize.SL.RA Idealize.SL.BI Idealize.SL.Sem
open scoped Idealize.SL.BI
open Idealize.SL.BI.BIBase
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the operations before the call write. -/
def written : List (Ref sig .tc) :=
  [main_call0_c, main_call0_c_0, main_call0_c_1, main_call0_c_2, main_call0_c_3, main_call0_c_4, main_call0_v0, main_call0_v1,
    main_call0_cst, main_call0_v2, main_call0_c_5, main_call0_v3, main_call0_v4, main_call0_v5, main_call0_v6, main_call0_v7,
    main_call0_c_6, main_call0_v8, main_call0_v9, main_call0_v10, main_call0_v11, main_call0_v12, main_call0_v13, main_call0_v14,
    main_call0_v15, main_call0_v16, main_call0_v17, main_call0_v18, main_call0_v19]

/-- A buffer that no operation before the call writes is as it was at the launch. -/
theorem V₀_of (c : Dev nD) {b : Ref sig .tc} (hb : b ∉ written) : V₀ m c (Proc.devRef .tc b) = m ((c : Thread nD τ).loc b) :=
  StableHlo.after_of_writes_sub hostOps0 _ (StableHlo.forall_writes_sub_of_map (W := written) rfl) hb

theorem V₀_tab (c : Dev nD) (k : Fin 6) : V₀ m c (Proc.devRef .tc (pre0.ref k)) = tabs k := by
  unfold V₀
  fin_cases k <;> after_results <;> rfl

/-- No table is the call's result or one of the two arrays made from it, -/
theorem tab_ne : ∀ k : Fin 6, pre0.ref k ≠ main_call0_v20 ∧ pre0.ref k ≠ main_call0_v21 ∧ pre0.ref k ≠ main_v0 := by decide
/-- and none of the call's arrays is one of those two. -/
theorem arr_ne : ∀ w : Fin 5, ¬ (arrRef spec0 w = main_call0_v21 ∨ arrRef spec0 w = main_v0) := by decide

/-- The two operations after the call. -/
theorem tail_mem {op : HloOp τ sig (Elt F)} (h : op ∈ hostOps1) :
    op = StableHlo.TRef.reshape (.of main_call0_v20 : StableHlo.TRef sig ⟨S10000x128, .f32⟩) (.of main_call0_v21 : StableHlo.TRef sig ⟨S10000x4x32, .f32⟩) (rfl : (.f32 : EltTy) = .f32) shapeCasts_S10000x128_S10000x4x32
      ∨ op = StableHlo.TRef.unary (.of main_call0_v21 : StableHlo.TRef sig ⟨S10000x4x32, .f32⟩) (.of main_v0 : StableHlo.TRef sig ⟨S4x10000x32, .f32⟩) (transpose S4x10000x32 [1, 0, 2] · transposes_S10000x4x32_S4x10000x32_1_0_2) := by
  simpa only [List.mem_cons, List.not_mem_nil, or_false] using h

/-- They write the reshaped result and the transposed one, nothing else. -/
theorem tail_writes {op : HloOp τ sig (Elt F)} (h : op ∈ hostOps1) {b : Ref sig .tc} (hb : ¬ (b = main_call0_v21 ∨ b = main_v0)) :
    Proc.devRef .tc b ∉ op.writes := by
  rcases tail_mem h with rfl | rfl
  · exact fun h => hb (.inl (Proc.devRef_injective _ (Finset.mem_singleton.mp h)))
  · exact fun h => hb (.inr (Proc.devRef_injective _ (Finset.mem_singleton.mp h)))

set_option backward.isDefEq.respectTransparency.types false in
/-- The program terminates without fault, and at the end every argument is as it was at the launch and every counter at zero. -/
theorem frame : θ_run defs (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  Pipeline.θ_run_frameP_around_T_forget pcfgs adm (dats m) 0 launch0 defs₀ 𝒱₀ (fun _ => true) {main_call0_v21, main_v0} m ρ main
    (body_obligation m) (fun c => (dats m 0 c).share_full fun _ => rfl) (fun _ _ => rfl) (V₀ m) [hostOps1]
    (by
      intro ops hops op hop
      rw [List.mem_singleton] at hops; subst hops
      rcases tail_mem hop with rfl | rfl
      · exact sub_tailRefs pre0 spec0 _ (StableHlo.reshape_bufs_sub ..) (fun k h => by
          have := tab_ne k; simp only [StableHlo.TRef.reshape, StableHlo.reshape_bufs, Finset.mem_insert, Finset.mem_singleton] at h
          rcases h with h | h <;> simp_all [(Proc.devRef_injective _ h)])
      · exact sub_tailRefs pre0 spec0 _ (StableHlo.unary_bufs_sub ..) (fun k h => by
          have := tab_ne k; simp only [StableHlo.TRef.unary, StableHlo.unary_bufs, Finset.mem_insert, Finset.mem_singleton] at h
          rcases h with h | h <;> simp_all [(Proc.devRef_injective _ h)]))
    (by
      intro ops hops op hop
      rw [List.mem_singleton] at hops; subst hops
      rcases tail_mem hop with rfl | rfl <;> rfl)
    (by
      intro ops hops op hop w
      rw [List.mem_singleton] at hops; subst hops
      exact tail_writes hop (arr_ne w))
    (by
      intro ops hops op hop b hb
      rw [List.mem_singleton] at hops; subst hops
      by_contra hn
      exact tail_writes hop (fun h => hn (by rcases h with h | h <;> simp [h])) hb)
    (hmainP_around pcfgs 0 defs₀ 𝒱₀ m main [hostOps0] [hostOps1] hostOps0_sub (by
      show List.Forall (fun op : HloOp τ sig (Elt F) => op.fresh = ∅) hostOps0
      repeat' apply And.intro
      all_goals rfl) main_chain)
    (fun _ _ => rfl) (V₀_tab m) (fun _ _ => rfl)
    _ (fun r h => ⟨fun c => by
      have hr : ∀ b : Ref sig .tc, b ∉ written → b ∈ restRefs sig spec0 \ {main_call0_v21, main_v0} →
          r.2.mem ((c.tc : Thread nD τ).loc b) = m ((c.tc : Thread nD τ).loc b) :=
        fun b h₁ h₂ => ((h.1 c).2 b h₂).trans (V₀_of m c h₁)
      have h1 := (h.1 c).1 0
      rw [RDat.ArrAt_in _ 0 rfl] at h1
      exact ⟨hr _ (by decide) (by decide), h1.trans (V₀_of m c (b := main_arg1) (by decide)), hr _ (by decide) (by decide),
        hr _ (by decide) (by decide)⟩, h.2⟩)

end Cert.KernelIdeal.Hand
end
-- ==== Proof.Pay.lean ====
module

public import proofs.«01_k».proof.Proof.Tabs
public import Idealize.ShloMosaic.Lib.Pointwise

@[expose] public section

set_option maxRecDepth 16384

noncomputable section

namespace Cert.KernelIdeal.Hand

open Idealize.ShloMosaic Idealize.ShloMosaic.TcCoe Idealize.ShloMosaic.Pipeline
open Idealize.SL Idealize.SL.RA Idealize.SL.BI Idealize.SL.Sem
open scoped Idealize.SL.BI
open Idealize.SL.BI.BIBase
open Cert.KernelIdeal Cert.KernelIdeal.Gen

/-- Row `r` of a block's first half against the column `U`. -/
def lo7 (X : Vec Ideal S1280x2560 .f32) (U : Fin 1280 → EReal) (r : Fin 1280) : EReal :=
  ∑ k : Fin 1280, X (ix2 r ⟨k.val, by omega⟩) * U k

/-- Row `r` of the first `w` columns of a block's second half against the column `U`. -/
def hi7 (w : ℕ) (X : Vec Ideal S1280x2560 .f32) (U : Fin 1280 → EReal) (r : Fin 1280) : EReal :=
  ∑ k : Fin 1280, if k.val < w then X (ix2 r ⟨1280 + k.val, by omega⟩) * U k else 0

/-- The projection of one row: `x (w0 - w2) + y w1 + (2 z) w2 + b`. -/
def proj (W : Vec Ideal S3x128x128 .f32) (b : Vec Ideal S1x128 .f32) (x y z : Fin 128 → EReal) (f : Fin 128) : EReal :=
  (∑ e : Fin 128, x e * (W (ix3 0 e f) - W (ix3 2 e f))) + (∑ e : Fin 128, y e * W (ix3 1 e f))
    + (∑ e : Fin 128, (Ideal.ofBits .f32 0x40000000#32 * z e) * W (ix3 2 e f)) + b (ix2 0 f)

section
variable (lo hi : Vec Ideal S1280x1280 .f32) (hi' : Vec Ideal S1280x1040 .f32) (a y z : Vec Ideal S1280x128 .f32)
  (u v x : Vec Ideal S1x1280x128 .f32) (v' : Vec Ideal S1x1040x128 .f32) (w0 w1 w2 : Vec Ideal S1x128x128 .f32) (b : Vec Ideal S1x128 .f32)
  (q : BitVec 32) (r : Fin 1280) (f : Fin 128)

theorem pay1_at : k0_pay1 (F := Ideal) (ix2 r f) = 0 := by pointwise [k0_pay1]
theorem pay2_at : k0_pay2 (F := Ideal) (ix2 r f) = 0 := by pointwise [k0_pay2]
theorem pay12_at : k0_pay12 (F := Ideal) (ix2 r f) = 0 := by pointwise [k0_pay12]
theorem pay13_at : k0_pay13 (F := Ideal) (ix2 r f) = 0 := by pointwise [k0_pay13]
theorem pay3_at : k0_pay3 (F := Ideal) lo hi a u v (ix2 r f)
    = a (ix2 r f) + ((∑ k : Fin 1280, lo (ix2 r k) * u (ix3 0 k f)) + ∑ k : Fin 1280, hi (ix2 r k) * v (ix3 0 k f)) := by
  pointwise [k0_pay3]
theorem pay14_at : k0_pay14 (F := Ideal) lo hi' a u v' (ix2 r f)
    = a (ix2 r f) + ((∑ k : Fin 1280, lo (ix2 r k) * u (ix3 0 k f)) + ∑ k : Fin 1040, hi' (ix2 r k) * v' (ix3 0 k f)) := by
  pointwise [k0_pay14]
theorem pay4_at : k0_pay4 (F := Ideal) lo a u (ix2 r f) = a (ix2 r f) + ∑ k : Fin 1280, lo (ix2 r k) * u (ix3 0 k f) := by
  pointwise [k0_pay4]
theorem pay5_at : k0_pay5 (F := Ideal) hi a u (ix2 r f) = a (ix2 r f) + ∑ k : Fin 1280, hi (ix2 r k) * u (ix3 0 k f) := by
  pointwise [k0_pay5]
theorem pay9_at : k0_pay9 (F := Ideal) lo a u (ix2 r f) = a (ix2 r f) + ∑ k : Fin 1280, lo (ix2 r k) * u (ix3 0 k f) := by
  pointwise [k0_pay9]
theorem pay10_at : k0_pay10 (F := Ideal) hi a u (ix2 r f) = a (ix2 r f) + ∑ k : Fin 1280, hi (ix2 r k) * u (ix3 0 k f) := by
  pointwise [k0_pay10]
theorem pay15_at : k0_pay15 (F := Ideal) lo a u (ix2 r f) = a (ix2 r f) + ∑ k : Fin 1280, lo (ix2 r k) * u (ix3 0 k f) := by
  pointwise [k0_pay15]
theorem pay16_at : k0_pay16 (F := Ideal) hi' a v' (ix2 r f) = a (ix2 r f) + ∑ k : Fin 1040, hi' (ix2 r k) * v' (ix3 0 k f) := by
  pointwise [k0_pay16]
theorem pay20_at : k0_pay20 (F := Ideal) lo a u (ix2 r f) = a (ix2 r f) + ∑ k : Fin 1280, lo (ix2 r k) * u (ix3 0 k f) := by
  pointwise [k0_pay20]
theorem pay21_at : k0_pay21 (F := Ideal) hi' a v' (ix2 r f) = a (ix2 r f) + ∑ k : Fin 1040, hi' (ix2 r k) * v' (ix3 0 k f) := by
  pointwise [k0_pay21]
theorem pay6_at : k0_pay6 (F := Ideal) hi y a (ix3 0 r f) = a (ix2 r f) + ∑ k : Fin 1280, hi (ix2 r k) * y (ix2 k f) := by
  pointwise [k0_pay6]
theorem pay17_at : k0_pay17 (F := Ideal) hi' y a (ix3 0 r f) = a (ix2 r f) + ∑ k : Fin 1040, hi' (ix2 r k) * y (ix2 ⟨k.val, by omega⟩ f) := by
  pointwise [k0_pay17]
theorem pay8_at : k0_pay8 (F := Ideal) u (ix2 r f) = u (ix3 0 r f) := by pointwise [k0_pay8]
theorem pay19_at : k0_pay19 (F := Ideal) u (ix2 r f) = u (ix3 0 r f) := by pointwise [k0_pay19]
theorem pay24_at : k0_pay24 (F := Ideal) q a (ix3 0 r f) = k0_pay23 (F := Ideal) q a (ix2 r f) := by pointwise [k0_pay24]
theorem pay27_at : k0_pay27 (F := Ideal) q a (ix3 0 r f) = k0_pay26 (F := Ideal) q a (ix2 r f) := by pointwise [k0_pay27]
theorem pay25_at : k0_pay25 (F := Ideal) q lo y a (ix3 0 r f)
    = a (ix2 r f) + ∑ k : Fin 1280, lo (ix2 r k) * k0_pay23 (F := Ideal) q y (ix2 k f) := by pointwise [k0_pay25]
theorem pay28_at : k0_pay28 (F := Ideal) q lo y a (ix3 0 r f)
    = a (ix2 r f) + ∑ k : Fin 1280, lo (ix2 r k) * k0_pay26 (F := Ideal) q y (ix2 k f) := by pointwise [k0_pay28]

/-- A row below the array's end is kept by the mask of the last block. -/
theorem pay23_at (h : Scalar.cmpi .slt q 7#32 = 1#1 ∨ r.val < 1040) : k0_pay23 (F := Ideal) q a (ix2 r f) = a (ix2 r f) := by
  pointwise [k0_pay23]
  have or_l : ∀ x : BitVec 1, IntOp.ori (1#1) x = 1#1 := by decide
  have or_r : ∀ x : BitVec 1, IntOp.ori x (1#1) = 1#1 := by decide
  rcases h with h | h
  · rw [h, or_l]; rfl
  · rw [show IntOp.cmpi .slt (BitVec.ofNat 32 r.val) 1040#32 = 1#1 from by
      have h0 : (BitVec.ofNat 32 r.val).toNat = r.val := by rw [BitVec.toNat_ofNat]; omega
      have h1 : (BitVec.ofNat 32 r.val).toInt = (r.val : ℤ) := by
        rw [BitVec.toInt_eq_toNat_of_lt (by rw [h0]; omega), h0]
      have h2 : (1040#32 : BitVec 32).toInt = 1040 := by decide
      have h3 : (BitVec.ofNat 32 r.val).slt 1040#32 = true := by
        rw [BitVec.slt, h1, h2]; exact decide_eq_true (by omega)
      show BitVec.ofBool ((BitVec.ofNat 32 r.val).slt 1040#32) = 1#1
      rw [h3]; rfl, or_r]
    rfl
theorem pay26_at (h : Scalar.cmpi .slt q 7#32 = 1#1 ∨ r.val < 1040) : k0_pay26 (F := Ideal) q a (ix2 r f) = a (ix2 r f) := pay23_at a q r f h

theorem pay7_at : k0_pay7 (F := Ideal) y u w0 w1 w2 x b (ix2 r f)
    = (∑ e : Fin 128, x (ix3 0 r e) * (w0 (ix3 0 e f) - w2 (ix3 0 e f))) + (∑ e : Fin 128, y (ix2 r e) * w1 (ix3 0 e f))
      + (∑ e : Fin 128, (Ideal.ofBits .f32 0x40000000#32 * u (ix3 0 r e)) * w2 (ix3 0 e f)) + b (ix2 0 f) := by
  pointwise [k0_pay7]
theorem pay18_at : k0_pay18 (F := Ideal) y u w0 w1 w2 x b (ix2 r f)
    = (∑ e : Fin 128, x (ix3 0 r e) * (w0 (ix3 0 e f) - w2 (ix3 0 e f))) + (∑ e : Fin 128, y (ix2 r e) * w1 (ix3 0 e f))
      + (∑ e : Fin 128, (Ideal.ofBits .f32 0x40000000#32 * u (ix3 0 r e)) * w2 (ix3 0 e f)) + b (ix2 0 f) := by
  pointwise [k0_pay18]
theorem pay11_at : k0_pay11 (F := Ideal) u z w0 w1 w2 x b (ix2 r f)
    = (∑ e : Fin 128, x (ix3 0 r e) * (w0 (ix3 0 e f) - w2 (ix3 0 e f))) + (∑ e : Fin 128, u (ix3 0 r e) * w1 (ix3 0 e f))
      + (∑ e : Fin 128, (Ideal.ofBits .f32 0x40000000#32 * z (ix2 r e)) * w2 (ix3 0 e f)) + b (ix2 0 f) := by
  pointwise [k0_pay11]
theorem pay22_at : k0_pay22 (F := Ideal) u z w0 w1 w2 x b (ix2 r f)
    = (∑ e : Fin 128, x (ix3 0 r e) * (w0 (ix3 0 e f) - w2 (ix3 0 e f))) + (∑ e : Fin 128, u (ix3 0 r e) * w1 (ix3 0 e f))
      + (∑ e : Fin 128, (Ideal.ofBits .f32 0x40000000#32 * z (ix2 r e)) * w2 (ix3 0 e f)) + b (ix2 0 f) := by
  pointwise [k0_pay22]
end

end Cert.KernelIdeal.Hand
end
-- ==== Proof.Access.lean ====
module

public import proofs.«01_k».proof.Proof.Pay
public import Idealize.ShloMosaic.Lib.Writes

@[expose] public section

set_option maxRecDepth 16384

noncomputable section

namespace Cert.KernelIdeal.Hand

open Idealize.ShloMosaic Idealize.ShloMosaic.TcCoe Idealize.ShloMosaic.Pipeline
open Idealize.SL Idealize.SL.RA Idealize.SL.BI Idealize.SL.Sem
open scoped Idealize.SL.BI
open Idealize.SL.BI.BIBase
open Cert.KernelIdeal Cert.KernelIdeal.Gen

/-! ## The schedule, as the tables give it -/

/-- The row block of `L` that point `s` reads, -/
def aT (s : Fin 48) : Fin 8 := ⟨(lit0 s).toNat % 8, Nat.mod_lt _ (by decide)⟩
/-- the two column blocks it covers, -/
def m0T (s : Fin 48) : Fin 8 := ⟨(2 * (lit1 s).toNat) % 8, Nat.mod_lt _ (by decide)⟩
def m1T (s : Fin 48) : Fin 8 := ⟨(2 * (lit1 s).toNat + 1) % 8, Nat.mod_lt _ (by decide)⟩
/-- and the row block of the output it may write. -/
def oT (s : Fin 48) : Fin 8 := ⟨(lit3 s).toNat % 8, Nat.mod_lt _ (by decide)⟩
/-- How many columns of the second column block lie inside the array. -/
def wT (s : Fin 48) : ℕ := if m1T s = 7 then 1040 else 1280
/-- The test for a row block's first chunk in the first sweep. -/
abbrev jz (v : BitVec 32) : BitVec 1 := Scalar.cmpi .ne (Scalar.extui (Scalar.cmpi .eq v 0#32) : BitVec 32) 0#32

theorem off2_s : ∀ s : Fin 48, k0_off2 (lit1 s) = ![(m0T s).val, 0, 0] := by decide +kernel
theorem off3_s : ∀ s : Fin 48, k0_off3 (lit1 s) = ![(m1T s).val, 0, 0] := by decide +kernel
theorem off4_s : ∀ s : Fin 48, k0_off4 (lit1 s) = ![(m0T s).val, 0, 0] := by decide +kernel
theorem off5_s : ∀ s : Fin 48, k0_off5 (lit1 s) = ![(m1T s).val, 0, 0] := by decide +kernel
theorem off6_s : ∀ s : Fin 48, k0_off6 (lit0 s) = ![(aT s).val, 0, 0] := by decide +kernel
theorem off7_s : ∀ s : Fin 48, k0_off7 (lit0 s) = ![(aT s).val, 0, 0] := by decide +kernel
theorem off8_s : ∀ s : Fin 48, k0_off8 (lit0 s) = ![(aT s).val, 0, 0] := by decide +kernel
theorem off9_s : ∀ s : Fin 48, k0_off9 (lit0 s) = ![(aT s).val, 0, 0] := by decide +kernel
theorem off10_s : ∀ s : Fin 48, k0_off10 (lit3 s) = ![(oT s).val, 0, 0] := by decide +kernel
theorem off11_s : ∀ s : Fin 48, k0_off11 (lit3 s) = ![(oT s).val, 0, 0] := by decide +kernel
theorem off12_s : ∀ s : Fin 48, k0_off12 (lit1 s) = ![(m0T s).val, 0, 0] := by decide +kernel
theorem off13_s : ∀ s : Fin 48, k0_off13 (lit1 s) = ![(m1T s).val, 0, 0] := by decide +kernel
theorem off14_s : ∀ s : Fin 48, k0_off14 (lit3 s) = ![(oT s).val, 0, 0] := by decide +kernel
theorem off15_s : ∀ s : Fin 48, k0_off15 (lit1 s) = ![(m0T s).val, 0, 0] := by decide +kernel
theorem off16_s : ∀ s : Fin 48, k0_off16 (lit1 s) = ![(m1T s).val, 0, 0] := by decide +kernel
theorem off17_s : ∀ s : Fin 48, k0_off17 (lit1 s) = ![(m0T s).val, 0, 0] := by decide +kernel
theorem off18_s : ∀ s : Fin 48, k0_off18 (lit1 s) = ![(m1T s).val, 0, 0] := by decide +kernel
theorem off19_s : ∀ s : Fin 48, k0_off19 (lit0 s) = ![(aT s).val, 0, 0] := by decide +kernel
theorem off20_s : ∀ s : Fin 48, k0_off20 (lit0 s) = ![(aT s).val, 0, 0] := by decide +kernel
theorem off21_s : ∀ s : Fin 48, k0_off21 (lit0 s) = ![(aT s).val, 0, 0] := by decide +kernel
theorem off22_s : ∀ s : Fin 48, k0_off22 (lit0 s) = ![(aT s).val, 0, 0] := by decide +kernel
theorem off23_s : ∀ s : Fin 48, k0_off23 (lit3 s) = ![(oT s).val, 0, 0] := by decide +kernel
theorem off24_s : ∀ s : Fin 48, k0_off24 (lit3 s) = ![(oT s).val, 0, 0] := by decide +kernel
theorem off25_s : ∀ s : Fin 48, k0_off25 (lit1 s) = ![(m0T s).val, 0, 0] := by decide +kernel
theorem off26_s : ∀ s : Fin 48, k0_off26 (lit1 s) = ![(m1T s).val, 0, 0] := by decide +kernel
theorem off27_s : ∀ s : Fin 48, k0_off27 (lit3 s) = ![(oT s).val, 0, 0] := by decide +kernel

theorem c1_s : ∀ s : Fin 48, k0_cond1 (lit1 s) = 1#1 ↔ m1T s ≠ 7 := by decide +kernel
theorem c15_s : ∀ s : Fin 48, k0_cond15 (lit1 s) = 1#1 ↔ m1T s = 7 := by decide +kernel
theorem c2_s : ∀ i : grid0.Coords, k0_cond2 i = 1#1 ↔ (i 0).val < 32 := by decide +kernel
theorem c10_s : ∀ i : grid0.Coords, k0_cond10 i = 1#1 ↔ ¬ (i 0).val < 32 := by decide +kernel
theorem c16_s : ∀ i : grid0.Coords, k0_cond16 i = 1#1 ↔ (i 0).val < 32 := by decide +kernel
theorem c24_s : ∀ i : grid0.Coords, k0_cond24 i = 1#1 ↔ ¬ (i 0).val < 32 := by decide +kernel
theorem jz_s : ∀ s : Fin 48, s.val < 32 → (jz (lit2 s) = 1#1 ↔ s.val % 4 = 0) := by decide +kernel
theorem c4_s : ∀ s : Fin 48, k0_cond4 (lit0 s) (lit1 s) = 1#1 ↔ m0T s < aT s := by decide +kernel
theorem c5_s : ∀ s : Fin 48, k0_cond5 (lit0 s) (lit1 s) = 1#1 ↔ m1T s < aT s := by decide +kernel
theorem c6_s : ∀ s : Fin 48, s.val < 32 → (k0_cond6 (lit2 s) = 1#1 ↔ s.val % 4 = 3) := by decide +kernel
theorem c7_s : ∀ s : Fin 48, k0_cond7 (lit0 s) = 1#1 ↔ (aT s).val % 2 = 0 := by decide +kernel
theorem c8_s : ∀ s : Fin 48, k0_cond8 (lit0 s) = 1#1 ↔ (aT s).val % 2 = 1 := by decide +kernel
theorem c9_s : ∀ s : Fin 48, k0_cond9 (lit0 s) = 1#1 ↔ aT s = 7 := by decide +kernel
theorem c11_s : ∀ s : Fin 48, k0_cond11 (lit5 s) = 1#1 ↔ lit5 s = 1#32 := by decide +kernel
theorem c12_s : ∀ s : Fin 48, k0_cond12 (lit0 s) (lit1 s) = 1#1 ↔ aT s < m0T s := by decide +kernel
theorem c13_s : ∀ s : Fin 48, k0_cond13 (lit0 s) (lit1 s) = 1#1 ↔ aT s < m1T s := by decide +kernel
theorem c14_s : ∀ s : Fin 48, k0_cond14 (lit4 s) = 1#1 ↔ lit4 s = 1#32 := by decide +kernel
theorem c18_s : ∀ s : Fin 48, k0_cond18 (lit0 s) (lit1 s) = 1#1 ↔ m0T s < aT s := by decide +kernel
theorem c19_s : ∀ s : Fin 48, k0_cond19 (lit0 s) (lit1 s) = 1#1 ↔ m1T s < aT s := by decide +kernel
theorem c20_s : ∀ s : Fin 48, s.val < 32 → (k0_cond20 (lit2 s) = 1#1 ↔ s.val % 4 = 3) := by decide +kernel
theorem c21_s : ∀ s : Fin 48, k0_cond21 (lit0 s) = 1#1 ↔ (aT s).val % 2 = 0 := by decide +kernel
theorem c22_s : ∀ s : Fin 48, k0_cond22 (lit0 s) = 1#1 ↔ (aT s).val % 2 = 1 := by decide +kernel
theorem c23_s : ∀ s : Fin 48, k0_cond23 (lit0 s) = 1#1 ↔ aT s = 7 := by decide +kernel
theorem c25_s : ∀ s : Fin 48, k0_cond25 (lit5 s) = 1#1 ↔ lit5 s = 1#32 := by decide +kernel
theorem c26_s : ∀ s : Fin 48, k0_cond26 (lit0 s) (lit1 s) = 1#1 ↔ aT s < m0T s := by decide +kernel
theorem c27_s : ∀ s : Fin 48, k0_cond27 (lit0 s) (lit1 s) = 1#1 ↔ aT s < m1T s := by decide +kernel
theorem c28_s : ∀ s : Fin 48, k0_cond28 (lit4 s) = 1#1 ↔ lit4 s = 1#32 := by decide +kernel
theorem lt7_s : ∀ s : Fin 48, aT s ≠ 7 → Scalar.cmpi .slt (lit0 s) 7#32 = 1#1 := by decide +kernel

/-! ## What the body's loads and stores read and leave -/

section
variable {sp : Space} (c : Dev nD)

/-- A load of a whole block reads the block. -/
theorem ld_all (M : Memref sig .tc sp S1280x128 .f32) (f : Buf (Elt Ideal) (M.view.loc (c : Thread nD τ))) (inb) (r : Fin 1280) (e : Fin 128) :
    View.readAt (Elt Ideal) M.view (Rect.unit (s := S1280x128) ![0, 0] S1280x128.size inb).toLoadRect f (ix2 r e) = M.view.read (Elt Ideal) f (ix2 r e) := by
  show M.view.read (Elt Ideal) f _ = _
  congr 1; funext a; fin_cases a <;> exact Fin.ext (by simp [LoadRect.idx, ix2])

/-- A load of the bias row reads it. -/
theorem ld_b (M : Memref sig .tc sp S1x128 .f32) (f : Buf (Elt Ideal) (M.view.loc (c : Thread nD τ))) (inb) (e : Fin 128) :
    View.readAt (Elt Ideal) M.view (Rect.unit (s := S1x128) ![0, 0] S1x128.size inb).toLoadRect f (ix2 0 e) = M.view.read (Elt Ideal) f (ix2 0 e) := by
  show M.view.read (Elt Ideal) f _ = _
  congr 1; funext a; fin_cases a <;> exact Fin.ext (by simp [LoadRect.idx, ix2])

/-- A load of one row block reads that block. -/
theorem ld_row (M : Memref sig .tc sp S8x1280x128 .f32) (f : Buf (Elt Ideal) (M.view.loc (c : Thread nD τ))) {off : Fin 3 → ℕ} (inb) (n : Fin 8)
    (h : off = ![n.val, 0, 0]) (r : Fin 1280) (e : Fin 128) :
    View.readAt (Elt Ideal) M.view (Rect.unit (s := S8x1280x128) off S1x1280x128.size inb).toLoadRect f (ix3 0 r e) = M.view.read (Elt Ideal) f (ix3 n r e) := by
  subst h
  show M.view.read (Elt Ideal) f _ = _
  congr 1; funext a; fin_cases a <;> exact Fin.ext (by simp [LoadRect.idx, ix3])

/-- A load of a row block's first 1040 rows reads those. -/
theorem ld_row' (M : Memref sig .tc sp S8x1280x128 .f32) (f : Buf (Elt Ideal) (M.view.loc (c : Thread nD τ))) {off : Fin 3 → ℕ} (inb) (n : Fin 8)
    (h : off = ![n.val, 0, 0]) (r : Fin 1040) (e : Fin 128) :
    View.readAt (Elt Ideal) M.view (Rect.unit (s := S8x1280x128) off S1x1040x128.size inb).toLoadRect f (ix3 0 r e)
      = M.view.read (Elt Ideal) f (ix3 n (⟨r.val, by omega⟩ : Fin 1280) e) := by
  subst h
  show M.view.read (Elt Ideal) f _ = _
  congr 1; funext a; fin_cases a <;> exact Fin.ext (by simp [LoadRect.idx, ix3])

/-- A load of one of the three weights reads it. -/
theorem ld_w (M : Memref sig .tc sp S3x128x128 .f32) (f : Buf (Elt Ideal) (M.view.loc (c : Thread nD τ))) (n : Fin 3) (inb) (r : Fin 128) (e : Fin 128) :
    View.readAt (Elt Ideal) M.view (Rect.unit (s := S3x128x128) ![n.val, 0, 0] S1x128x128.size inb).toLoadRect f (ix3 0 r e) = M.view.read (Elt Ideal) f (ix3 n r e) := by
  show M.view.read (Elt Ideal) f _ = _
  congr 1; funext a; fin_cases a <;> exact Fin.ext (by simp [LoadRect.idx, ix3])

/-- The two halves of a block of `L`, the second whole or cut at the array's end. -/
theorem ld_lo (M : Memref sig .tc sp S1280x2560 .f32) (f : Buf (Elt Ideal) (M.view.loc (c : Thread nD τ))) (inb) (r k : Fin 1280) :
    View.readAt (Elt Ideal) M.view (Rect.unit (s := S1280x2560) ![0, 0] S1280x1280.size inb).toLoadRect f (ix2 r k)
      = M.view.read (Elt Ideal) f (ix2 r (⟨k.val, by omega⟩ : Fin 2560)) := by
  show M.view.read (Elt Ideal) f _ = _
  congr 1; funext a; fin_cases a <;> exact Fin.ext (by simp [LoadRect.idx, ix2])
theorem ld_hi (M : Memref sig .tc sp S1280x2560 .f32) (f : Buf (Elt Ideal) (M.view.loc (c : Thread nD τ))) (inb) (r k : Fin 1280) :
    View.readAt (Elt Ideal) M.view (Rect.unit (s := S1280x2560) ![0, 1280] S1280x1280.size inb).toLoadRect f (ix2 r k)
      = M.view.read (Elt Ideal) f (ix2 r (⟨1280 + k.val, by omega⟩ : Fin 2560)) := by
  show M.view.read (Elt Ideal) f _ = _
  congr 1; funext a; fin_cases a <;> exact Fin.ext (by simp [LoadRect.idx, ix2])
theorem ld_hi' (M : Memref sig .tc sp S1280x2560 .f32) (f : Buf (Elt Ideal) (M.view.loc (c : Thread nD τ))) (inb) (r : Fin 1280) (k : Fin 1040) :
    View.readAt (Elt Ideal) M.view (Rect.unit (s := S1280x2560) ![0, 1280] S1280x1040.size inb).toLoadRect f (ix2 r k)
      = M.view.read (Elt Ideal) f (ix2 r (⟨1280 + k.val, by omega⟩ : Fin 2560)) := by
  show M.view.read (Elt Ideal) f _ = _
  congr 1; funext a; fin_cases a <;> exact Fin.ext (by simp [LoadRect.idx, ix2])

/-- A store of a whole block leaves it. -/
theorem st_all (M : Memref sig .tc sp S1280x128 .f32) (f : Buf (Elt Ideal) (M.view.loc (c : Thread nD τ))) (inb) (w : FVec Ideal S1280x128 .f32) (r : Fin 1280) (e : Fin 128) :
    M.view.read (Elt Ideal) (M.view.writes (Elt Ideal) f [⟨Rect.unit (s := S1280x128) ![0, 0] S1280x128.size inb, w⟩]) (ix2 r e) = w (ix2 r e) := by
  have h : (Rect.unit (s := S1280x128) ![0, 0] S1280x128.size inb).emb (ix2 r e) = ix2 r e := by
    apply Rect.emb_eq_of_coords
    intro a
    match a with
    | ⟨0, _⟩ => show r.val = 0 + 1 * r.val; omega
    | ⟨1, _⟩ => show e.val = 0 + 1 * e.val; omega
  have := View.read_writes_cons_emb M.view f (Rect.unit (s := S1280x128) ![0, 0] S1280x128.size inb) w [] (ix2 r e)
  rw [h] at this
  exact this

/-- A load of a whole block that a store has just filled reads what it stored. -/
theorem ld_cov [∀ e, Nonempty (Elt Ideal e)] (c : Dev nD) (M : Memref sig .tc sp S1280x128 .f32) (inb inb') (w : FVec Ideal S1280x128 .f32) (r : Fin 1280) (e : Fin 128) :
    M.view.readCov (Val := Elt Ideal) [⟨Rect.unit (s := S1280x128) ![0, 0] S1280x128.size inb, w⟩] (Rect.unit (s := S1280x128) ![0, 0] S1280x128.size inb').toLoadRect (ix2 r e)
      = w (ix2 r e) :=
  (ld_all c M _ inb' r e).trans (st_all c M _ inb w r e)

/-- A store of one row block leaves it there, -/
theorem st_hit (M : Memref sig .tc sp S8x1280x128 .f32) (f : Buf (Elt Ideal) (M.view.loc (c : Thread nD τ))) {off : Fin 3 → ℕ} (inb) (n : Fin 8)
    (h : off = ![n.val, 0, 0]) (w : FVec Ideal S1x1280x128 .f32) (r : Fin 1280) (e : Fin 128) :
    M.view.read (Elt Ideal) (M.view.writes (Elt Ideal) f [⟨Rect.unit (s := S8x1280x128) off S1x1280x128.size inb, w⟩]) (ix3 n r e) = w (ix3 0 r e) := by
  subst h
  have h : (Rect.unit (s := S8x1280x128) ![n.val, 0, 0] S1x1280x128.size inb).emb (ix3 0 r e) = ix3 n r e := by
    apply Rect.emb_eq_of_coords
    intro a
    match a with
    | ⟨0, _⟩ => show n.val = n.val + 1 * 0; omega
    | ⟨1, _⟩ => show r.val = 0 + 1 * r.val; omega
    | ⟨2, _⟩ => show e.val = 0 + 1 * e.val; omega
  have := View.read_writes_cons_emb M.view f (Rect.unit (s := S8x1280x128) ![n.val, 0, 0] S1x1280x128.size inb) w [] (ix3 0 r e)
  rw [h] at this
  exact this
/-- and every other block as it was. -/
theorem st_miss (M : Memref sig .tc sp S8x1280x128 .f32) (f : Buf (Elt Ideal) (M.view.loc (c : Thread nD τ))) {off : Fin 3 → ℕ} (inb) (n : Fin 8)
    (h : off = ![n.val, 0, 0]) (w : FVec Ideal S1x1280x128 .f32) (b : Fin 8) (hb : b ≠ n) (r : Fin 1280) (e : Fin 128) :
    M.view.read (Elt Ideal) (M.view.writes (Elt Ideal) f [⟨Rect.unit (s := S8x1280x128) off S1x1280x128.size inb, w⟩]) (ix3 b r e) = M.view.read (Elt Ideal) f (ix3 b r e) := by
  subst h
  refine View.read_writes_cons_miss_of_axis M.view f _ [] (ix3 b r e) 0 n.val 1 rfl rfl rfl ?_
  have : b.val ≠ n.val := fun h => hb (Fin.ext h)
  show b.val < n.val ∨ n.val + 1 ≤ b.val
  omega

/-- Contents chosen by a test that holds, or does not. -/
theorem rd_pos {σ : Shape} {ε : EltTy} (M : Memref sig .tc sp σ ε) {p : Prop} [Decidable p] (h : p) (t : p → Buf (Elt Ideal) (M.view.loc (c : Thread nD τ)))
    (u : ¬ p → Buf (Elt Ideal) (M.view.loc (c : Thread nD τ))) (j : σ.Idx) :
    M.view.read (Elt Ideal) (dite p t u) j = M.view.read (Elt Ideal) (t h) j := by rw [dif_pos h]
theorem rd_neg {σ : Shape} {ε : EltTy} (M : Memref sig .tc sp σ ε) {p : Prop} [Decidable p] (h : ¬ p) (t : p → Buf (Elt Ideal) (M.view.loc (c : Thread nD τ)))
    (u : ¬ p → Buf (Elt Ideal) (M.view.loc (c : Thread nD τ))) (j : σ.Idx) :
    M.view.read (Elt Ideal) (dite p t u) j = M.view.read (Elt Ideal) (u h) j := by rw [dif_neg h]

/-- An accumulator that a test's store adds to. -/
theorem cond_add (M : Memref sig .tc sp S1280x128 .f32) {p q : Prop} [Decidable p] [Decidable q] (hpq : p ↔ q)
    (g : Buf (Elt Ideal) (M.view.loc (c : Thread nD τ))) (inb) (w : p → FVec Ideal S1280x128 .f32) (r : Fin 1280) (e : Fin 128) (A T : EReal)
    (hA : M.view.read (Elt Ideal) g (ix2 r e) = A) (hT : ∀ h, w h (ix2 r e) = M.view.read (Elt Ideal) g (ix2 r e) + T) :
    M.view.read (Elt Ideal) (dite p (fun h => M.view.writes (Elt Ideal) g [⟨Rect.unit (s := S1280x128) ![0, 0] S1280x128.size inb, w h⟩]) (fun _ => g)) (ix2 r e)
      = A + if q then T else 0 := by
  by_cases h : p
  · rw [rd_pos c M h, st_all, hT h, hA, if_pos (hpq.mp h)]
  · rw [rd_neg c M h, hA, if_neg (fun h' => h (hpq.mpr h')), add_zero]

/-- An accumulator that a test's store sets. -/
theorem cond_set (M : Memref sig .tc sp S1280x128 .f32) {p q : Prop} [Decidable p] [Decidable q] (hpq : p ↔ q)
    (g : Buf (Elt Ideal) (M.view.loc (c : Thread nD τ))) (inb) (w : p → FVec Ideal S1280x128 .f32) (r : Fin 1280) (e : Fin 128) (T : EReal)
    (hT : ∀ h, w h (ix2 r e) = T) :
    M.view.read (Elt Ideal) (dite p (fun h => M.view.writes (Elt Ideal) g [⟨Rect.unit (s := S1280x128) ![0, 0] S1280x128.size inb, w h⟩]) (fun _ => g)) (ix2 r e)
      = if q then T else M.view.read (Elt Ideal) g (ix2 r e) := by
  by_cases h : p
  · rw [rd_pos c M h, st_all, hT h, if_pos (hpq.mp h)]
  · rw [rd_neg c M h, if_neg (fun h' => h (hpq.mpr h'))]

/-- A row block that a test's store sets, and the others. -/
theorem cond_row_miss (M : Memref sig .tc sp S8x1280x128 .f32) {p q : Prop} [Decidable p] (hpq : p ↔ q)
    (g : Buf (Elt Ideal) (M.view.loc (c : Thread nD τ))) {off : Fin 3 → ℕ} (inb : p → _) (n : Fin 8) (ho : off = ![n.val, 0, 0])
    (w : p → FVec Ideal S1x1280x128 .f32) (b : Fin 8) (r : Fin 1280) (e : Fin 128) (hb : ¬ (q ∧ b = n)) :
    M.view.read (Elt Ideal) (dite p (fun h => M.view.writes (Elt Ideal) g [⟨Rect.unit (s := S8x1280x128) off S1x1280x128.size (inb h), w h⟩]) (fun _ => g)) (ix3 b r e)
      = M.view.read (Elt Ideal) g (ix3 b r e) := by
  by_cases h : p
  · rw [rd_pos c M h, st_miss c M g (inb h) n ho (w h) b (fun hbn => hb ⟨hpq.mp h, hbn⟩)]
  · rw [rd_neg c M h]
theorem cond_row_hit (M : Memref sig .tc sp S8x1280x128 .f32) {p : Prop} [Decidable p] (h : p)
    (g : Buf (Elt Ideal) (M.view.loc (c : Thread nD τ))) {off : Fin 3 → ℕ} (inb : p → _) (n : Fin 8) (ho : off = ![n.val, 0, 0])
    (w : p → FVec Ideal S1x1280x128 .f32) (r : Fin 1280) (e : Fin 128) :
    M.view.read (Elt Ideal) (dite p (fun h => M.view.writes (Elt Ideal) g [⟨Rect.unit (s := S8x1280x128) off S1x1280x128.size (inb h), w h⟩]) (fun _ => g)) (ix3 n r e)
      = w h (ix3 0 r e) := by
  rw [rd_pos c M h, st_hit c M g (inb h) n ho (w h)]

end

end Cert.KernelIdeal.Hand
end
-- ==== Proof.Steps.lean ====
module

public import proofs.«01_k».proof.Proof.Access

@[expose] public section

set_option maxRecDepth 16384

noncomputable section

namespace Cert.KernelIdeal.Hand

open Idealize.ShloMosaic Idealize.ShloMosaic.TcCoe Idealize.ShloMosaic.Pipeline
open Idealize.SL Idealize.SL.RA Idealize.SL.BI Idealize.SL.Sem
open scoped Idealize.SL.BI
open Idealize.SL.BI.BIBase
open Cert.KernelIdeal Cert.KernelIdeal.Gen

section
variable (s : Fin 48) (X7 : Vec Ideal S1280x2560 .f32) (X8 : Vec Ideal S8x1280x128 .f32) (X9 : Vec Ideal S3x128x128 .f32) (X10 : Vec Ideal S1x128 .f32)
  (X11 : Vec Ideal S1280x128 .f32) (X12 X13 : Vec Ideal S8x1280x128 .f32) (X14 X15 X16 : Vec Ideal S1280x128 .f32)
  (G11 : Vec Ideal S1280x128 .f32) (G12 G13 : Vec Ideal S8x1280x128 .f32) (G14 G15 G16 : Vec Ideal S1280x128 .f32)

/-- What a point of the first sweep does: from the operands `X7` … `X10`, the output's block `X11`, the kept `y1` and `z`, and the three
    accumulators, to the same at the point's end. -/
structure StepA : Prop where
  ay : ∀ r f, G14 (ix2 r f) = (if s.val % 4 = 0 then 0 else X14 (ix2 r f))
    + (lo7 X7 (fun k => X8 (ix3 (m0T s) k f)) r + hi7 (wT s) X7 (fun k => X8 (ix3 (m1T s) k f)) r)
  az : ∀ r f, G15 (ix2 r f) = (if s.val % 4 = 0 then 0 else X15 (ix2 r f))
    + (if m0T s < aT s then lo7 X7 (fun k => X12 (ix3 (m0T s) k f)) r else 0)
    + (if m1T s < aT s then hi7 (wT s) X7 (fun k => X12 (ix3 (m1T s) k f)) r else 0)
  y1k : ∀ b r f, ¬ (s.val % 4 = 3 ∧ b = aT s) → G12 (ix3 b r f) = X12 (ix3 b r f)
  y1n : s.val % 4 = 3 → ∀ (r : Fin 1280) f, (aT s ≠ 7 ∨ r.val < 1040) → G12 (ix3 (aT s) r f) = G14 (ix2 r f)
  zk : ∀ b r f, ¬ (s.val % 4 = 3 ∧ b = aT s) → G13 (ix3 b r f) = X13 (ix3 b r f)
  zn : s.val % 4 = 3 → ∀ r f, G13 (ix3 (aT s) r f) = G15 (ix2 r f)
    + (if (aT s).val % 2 = 0 then lo7 X7 (fun k => G12 (ix3 (aT s) k f)) r else hi7 (wT s) X7 (fun k => G12 (ix3 (aT s) k f)) r)
  outn : s.val % 4 = 3 → aT s = 7 → ∀ r f, G11 (ix2 r f)
    = proj X9 X10 (fun e => X8 (ix3 (oT s) r e)) (fun e => G12 (ix3 (aT s) r e)) (fun e => G13 (ix3 (aT s) r e)) f
  outk : ¬ (s.val % 4 = 3 ∧ aT s = 7) → G11 = X11

/-- What a point of the second sweep does: it adds to `z` the column blocks above the diagonal, and at a row block's last point writes
    the projection. -/
structure StepB : Prop where
  acc : ∀ r f, G16 (ix2 r f) = (if lit5 s = 1#32 then X13 (ix3 (oT s) r f) else X16 (ix2 r f))
    + (if aT s < m0T s then lo7 X7 (fun k => X12 (ix3 (m0T s) k f)) r else 0)
    + (if aT s < m1T s then hi7 (wT s) X7 (fun k => X12 (ix3 (m1T s) k f)) r else 0)
  y1k : G12 = X12
  zk : G13 = X13
  outn : lit4 s = 1#32 → ∀ r f, G11 (ix2 r f)
    = proj X9 X10 (fun e => X8 (ix3 (oT s) r e)) (fun e => X12 (ix3 (oT s) r e)) (fun e => G16 (ix2 r e)) f
  outk : ¬ lit4 s = 1#32 → G11 = X11
end

/-- A sum over the first 1040 of 1280 places. -/
theorem sum_cut (g : Fin 1280 → EReal) : (∑ k : Fin 1040, g ⟨k.val, by omega⟩) = ∑ k : Fin 1280, if k.val < 1040 then g k else 0 := by
  rw [← Finset.sum_filter]
  refine Finset.sum_bij (fun k _ => ⟨k.val, by omega⟩) (fun k _ => by simp) (fun a _ b _ h => Fin.ext (by simpa using h))
    (fun k hk => ⟨⟨k.val, by simpa using hk⟩, by simp⟩) (fun _ _ => rfl)

theorem hi7_full (X : Vec Ideal S1280x2560 .f32) (U : Fin 1280 → EReal) (r : Fin 1280) :
    (∑ k : Fin 1280, X (ix2 r (⟨1280 + k.val, by omega⟩ : Fin 2560)) * U k) = hi7 1280 X U r :=
  Finset.sum_congr rfl fun k _ => (if_pos k.isLt).symm

theorem hi7_cut (X : Vec Ideal S1280x2560 .f32) (U : Fin 1280 → EReal) (r : Fin 1280) :
    (∑ k : Fin 1040, X (ix2 r (⟨1280 + k.val, by omega⟩ : Fin 2560)) * U ⟨k.val, by omega⟩) = hi7 1040 X U r :=
  sum_cut fun k => X (ix2 r (⟨1280 + k.val, by omega⟩ : Fin 2560)) * U k

theorem wT_of_ne (s : Fin 48) (h : m1T s ≠ 7) : wT s = 1280 := if_neg h
theorem wT_of_eq (s : Fin 48) (h : m1T s = 7) : wT s = 1040 := if_pos h

end Cert.KernelIdeal.Hand
end
-- ==== Proof.Invariant.lean ====
module

public import proofs.«01_k».proof.Proof.Steps

@[expose] public section

set_option maxRecDepth 16384

noncomputable section

namespace Cert.KernelIdeal.Hand

open Idealize.ShloMosaic Idealize.ShloMosaic.TcCoe Idealize.ShloMosaic.Pipeline
open Idealize.SL Idealize.SL.RA Idealize.SL.BI Idealize.SL.Sem
open scoped Idealize.SL.BI
open Idealize.SL.BI.BIBase
open Cert.KernelIdeal Cert.KernelIdeal.Gen

section
variable (L : Vec Ideal S10000x10000 .f32)

/-- The entry of `L` that the blocks `b` and `k` name, zero past the array's end. -/
def Lat (b : Fin 8) (r : Fin 1280) (k : Fin 8) (i : Fin 1280) : EReal :=
  if h : 1280 * b.val + r.val < 10000 ∧ 1280 * k.val + i.val < 10000 then L (ix2 ⟨1280 * b.val + r.val, h.1⟩ ⟨1280 * k.val + i.val, h.2⟩) else 0

/-- Row `r` of row block `b` of `L` against the column block `k` of the column `u`. -/
def seg (u : Fin 8 → Fin 1280 → EReal) (b : Fin 8) (r : Fin 1280) (k : Fin 8) : EReal := ∑ i : Fin 1280, Lat L b r k i * u k i

/-- `L x`, by blocks. -/
def Yv (x : Vec Ideal S8x1280x128 .f32) (f : Fin 128) (b : Fin 8) (r : Fin 1280) : EReal := ∑ k : Fin 8, seg L (fun k i => x (ix3 k i f)) b r k

/-- `L (L x)`, by blocks. -/
def Zv (x : Vec Ideal S8x1280x128 .f32) (f : Fin 128) (b : Fin 8) (r : Fin 1280) : EReal := ∑ k : Fin 8, seg L (Yv L x f) b r k

/-- The output's block `b`. -/
def Ov (x : Vec Ideal S8x1280x128 .f32) (W : Vec Ideal S3x128x128 .f32) (B : Vec Ideal S1x128 .f32) (b : Fin 8) (r : Fin 1280) (f : Fin 128) : EReal :=
  proj W B (fun e => x (ix3 b r e)) (fun e => Yv L x e b r) (fun e => Zv L x e b r) f

/-- Row `r` of block `b` lies inside the array. -/
abbrev okr (b : Fin 8) (r : Fin 1280) : Prop := b ≠ 7 ∨ r.val < 1040

/-- A staged block holds the part of `L` that its point names, on the rows and columns inside the array. -/
def HoldsL (s : Fin 48) (X7 : Vec Ideal S1280x2560 .f32) : Prop := ∀ r, okr (aT s) r →
  (∀ k : Fin 1280, X7 (ix2 r (⟨k.val, by omega⟩ : Fin 2560)) = Lat L (aT s) r (m0T s) k)
    ∧ ∀ k : Fin 1280, k.val < wT s → X7 (ix2 r (⟨1280 + k.val, by omega⟩ : Fin 2560)) = Lat L (aT s) r (m1T s) k

theorem m0_ne7 : ∀ s : Fin 48, m0T s ≠ 7 := by decide +kernel

variable {L} {s : Fin 48} {X7 : Vec Ideal S1280x2560 .f32}

theorem lo_eq (h : HoldsL L s X7) {r : Fin 1280} (hr : okr (aT s) r) (U : Fin 1280 → EReal) (u : Fin 8 → Fin 1280 → EReal)
    (hU : ∀ k, okr (m0T s) k → U k = u (m0T s) k) : lo7 X7 U r = seg L u (aT s) r (m0T s) :=
  Finset.sum_congr rfl fun k _ => congrArg₂ (· * ·) ((h r hr).1 k) (hU k (.inl (m0_ne7 s)))

theorem hi_eq (h : HoldsL L s X7) {r : Fin 1280} (hr : okr (aT s) r) (U : Fin 1280 → EReal) (u : Fin 8 → Fin 1280 → EReal)
    (hU : ∀ k, okr (m1T s) k → U k = u (m1T s) k) : hi7 (wT s) X7 U r = seg L u (aT s) r (m1T s) := by
  refine Finset.sum_congr rfl fun k _ => ?_
  by_cases hk : k.val < wT s
  · rw [if_pos hk]
    refine congrArg₂ (· * ·) ((h r hr).2 k hk) (hU k ?_)
    by_cases h7 : m1T s = 7
    · rw [wT_of_eq s h7] at hk; exact .inr hk
    · exact .inl h7
  · rw [if_neg hk]
    have h7 : m1T s = 7 := by by_contra h7; rw [wT_of_ne s h7] at hk; exact hk k.isLt
    rw [wT_of_eq s h7] at hk
    have : Lat L (aT s) r (m1T s) k = 0 := dif_neg fun h => hk (by rw [h7] at h; have := h.2; simp at this; omega)
    rw [this, zero_mul]
end

/-! ## Which column blocks have been added -/

/-- The column blocks the first sweep has added to a row block's accumulators before point `s`. -/
def PA (s : ℕ) : Finset (Fin 8) :=
  Finset.univ.filter fun k => ∃ s' : Fin 48, s'.val < s ∧ s'.val / 4 = s / 4 ∧ (k = m0T s' ∨ k = m1T s')
/-- The column blocks the second sweep has gone over for point `s`'s row block before it. -/
def PC (s : Fin 48) : Finset (Fin 8) :=
  Finset.univ.filter fun k => ∃ s' : Fin 48, 32 ≤ s'.val ∧ s'.val < s.val ∧ aT s' = aT s ∧ (k = m0T s' ∨ k = m1T s')

theorem aT_val : ∀ s : Fin 48, s.val < 32 → (aT s).val = s.val / 4 := by decide +kernel
theorem m01 : ∀ s : Fin 48, m0T s ≠ m1T s := by decide +kernel
theorem pa_zero : ∀ s : Fin 48, s.val % 4 = 0 → PA s.val = ∅ := by decide +kernel
theorem pa_m0 : ∀ s : Fin 48, s.val < 32 → m0T s ∉ PA s.val := by decide +kernel
theorem pa_m1 : ∀ s : Fin 48, s.val < 32 → m1T s ∉ PA s.val := by decide +kernel
theorem pa_succ : ∀ s : Fin 48, s.val < 32 → s.val % 4 ≠ 3 → PA (s.val + 1) = insert (m0T s) (insert (m1T s) (PA s.val)) := by decide +kernel
theorem pa_last : ∀ s : Fin 48, s.val < 32 → s.val % 4 = 3 → insert (m0T s) (insert (m1T s) (PA s.val)) = Finset.univ := by decide +kernel
theorem m0_diag : ∀ s : Fin 48, s.val < 32 → s.val % 4 = 3 → (aT s).val % 2 = 0 → m0T s = aT s := by decide +kernel
theorem m1_diag : ∀ s : Fin 48, s.val < 32 → s.val % 4 = 3 → ¬ (aT s).val % 2 = 0 → m1T s = aT s := by decide +kernel
theorem aT_succ : ∀ s : Fin 48, ∀ h : s.val + 1 < 48, s.val < 32 → s.val % 4 ≠ 3 → aT ⟨s.val + 1, h⟩ = aT s := by decide +kernel
theorem o_a : ∀ s : Fin 48, s.val < 32 → s.val % 4 = 3 → aT s = 7 → oT s = 7 := by decide +kernel
theorem oT_B : ∀ s : Fin 48, 32 ≤ s.val → oT s = aT s := by decide +kernel
theorem pc_zero : ∀ s : Fin 48, 32 ≤ s.val → lit5 s = 1#32 → PC s = ∅ := by decide +kernel
theorem pc_m0 : ∀ s : Fin 48, 32 ≤ s.val → m0T s ∉ PC s := by decide +kernel
theorem pc_m1 : ∀ s : Fin 48, 32 ≤ s.val → m1T s ∉ PC s := by decide +kernel
theorem pc_succ : ∀ s : Fin 48, ∀ h : s.val + 1 < 48, 32 ≤ s.val → lit5 ⟨s.val + 1, h⟩ ≠ 1#32 →
    aT ⟨s.val + 1, h⟩ = aT s ∧ PC ⟨s.val + 1, h⟩ = insert (m0T s) (insert (m1T s) (PC s)) := by decide +kernel
theorem pc_last : ∀ s : Fin 48, 32 ≤ s.val → lit4 s = 1#32 → ∀ k, aT s < k → k ∈ insert (m0T s) (insert (m1T s) (PC s)) := by decide +kernel
theorem lit5_32 : ∀ s : Fin 48, s.val = 32 → lit5 s = 1#32 := by decide +kernel

theorem sum_ins {m0 m1 : Fin 8} {P : Finset (Fin 8)} (h01 : m0 ≠ m1) (h0 : m0 ∉ P) (h1 : m1 ∉ P) (g : Fin 8 → EReal) :
    (∑ k ∈ insert m0 (insert m1 P), g k) = (∑ k ∈ P, g k) + g m0 + g m1 := by
  rw [Finset.sum_insert (by simp [h01, h0]), Finset.sum_insert h1]; ac_rfl

theorem sum_three (a : Fin 8) (g : Fin 8 → EReal) :
    (∑ k, g k) = (∑ k, if k < a then g k else 0) + g a + ∑ k, if a < k then g k else 0 := by
  have h : g a = ∑ k, if k = a then g k else 0 := by rw [Finset.sum_ite_eq']; simp
  rw [h, ← Finset.sum_add_distrib, ← Finset.sum_add_distrib]
  refine Finset.sum_congr rfl fun k _ => ?_
  rcases lt_trichotomy k a with h | h | h
  · rw [if_pos h, if_neg h.ne, if_neg h.not_gt, add_zero, add_zero]
  · subst h; rw [if_neg (lt_irrefl _), if_pos rfl, zero_add, add_zero]
  · rw [if_neg h.not_gt, if_neg h.ne', if_pos h, zero_add, zero_add]

section
variable (L : Vec Ideal S10000x10000 .f32) (x : Vec Ideal S8x1280x128 .f32)

/-- What the scratch buffers hold before point `t`, on the rows inside the array: `y1` the blocks already swept; `z` those blocks' products with
    the column blocks up to their own; the two accumulators of the first sweep what it has added for the block it is at; the accumulator of the second
    sweep `z` and the column blocks past the diagonal gone over. -/
structure Inv (t : ℕ) (X12 X13 : Vec Ideal S8x1280x128 .f32) (X14 X15 X16 : Vec Ideal S1280x128 .f32) : Prop where
  y : ∀ (b : Fin 8) r f, 4 * b.val + 4 ≤ t → okr b r → X12 (ix3 b r f) = Yv L x f b r
  z : ∀ (b : Fin 8) r f, 4 * b.val + 4 ≤ t → okr b r →
    X13 (ix3 b r f) = (∑ k, if k < b then seg L (Yv L x f) b r k else 0) + seg L (Yv L x f) b r b
  ay : ∀ h : t < 48, t < 32 → t % 4 ≠ 0 → ∀ r f, okr (aT ⟨t, h⟩) r →
    X14 (ix2 r f) = ∑ k ∈ PA t, seg L (fun k i => x (ix3 k i f)) (aT ⟨t, h⟩) r k
  az : ∀ h : t < 48, t < 32 → t % 4 ≠ 0 → ∀ r f, okr (aT ⟨t, h⟩) r →
    X15 (ix2 r f) = ∑ k ∈ PA t, if k < aT ⟨t, h⟩ then seg L (Yv L x f) (aT ⟨t, h⟩) r k else 0
  acc : ∀ h : t < 48, 32 ≤ t → lit5 ⟨t, h⟩ ≠ 1#32 → ∀ r f, okr (aT ⟨t, h⟩) r →
    X16 (ix2 r f) = (∑ k, if k < aT ⟨t, h⟩ then seg L (Yv L x f) (aT ⟨t, h⟩) r k else 0) + seg L (Yv L x f) (aT ⟨t, h⟩) r (aT ⟨t, h⟩)
      + ∑ k ∈ PC ⟨t, h⟩, if aT ⟨t, h⟩ < k then seg L (Yv L x f) (aT ⟨t, h⟩) r k else 0

/-- Before the first point nothing is claimed. -/
theorem inv_zero (X12 X13 : Vec Ideal S8x1280x128 .f32) (X14 X15 X16 : Vec Ideal S1280x128 .f32) : Inv L x 0 X12 X13 X14 X15 X16 where
  y _ _ _ h := by omega
  z _ _ _ h := by omega
  ay _ _ h := (h rfl).elim
  az _ _ h := (h rfl).elim
  acc _ h := by omega

/-- The points that write an output block. -/
def em (s : Fin 48) : Prop := s.val = 31 ∨ (32 ≤ s.val ∧ lit4 s = 1#32)

variable {L x} {s : Fin 48} {X7 : Vec Ideal S1280x2560 .f32} {X9 : Vec Ideal S3x128x128 .f32} {X10 : Vec Ideal S1x128 .f32}
  {X11 : Vec Ideal S1280x128 .f32} {X12 X13 : Vec Ideal S8x1280x128 .f32} {X14 X15 X16 : Vec Ideal S1280x128 .f32}
  {G11 : Vec Ideal S1280x128 .f32} {G12 G13 : Vec Ideal S8x1280x128 .f32} {G14 G15 G16 : Vec Ideal S1280x128 .f32}

theorem em_A : ∀ s : Fin 48, s.val < 32 → (s.val = 31 ↔ s.val % 4 = 3 ∧ aT s = 7) := by decide +kernel

/-- A point of the first sweep keeps the invariant, and its output block is the one meant. -/
theorem inv_A (hs : s.val < 32) (hL : HoldsL L s X7) (hI : Inv L x s.val X12 X13 X14 X15 X16)
    (h : StepA s X7 x X9 X10 X11 X12 X13 X14 X15 G11 G12 G13 G14 G15) :
    Inv L x (s.val + 1) G12 G13 G14 G15 G16 ∧ (em s → ∀ r f, okr (oT s) r → G11 (ix2 r f) = Ov L x X9 X10 (oT s) r f) ∧ (¬ em s → G11 = X11) := by
  have hys : ∀ k : Fin 8, k < aT s → 4 * k.val + 4 ≤ s.val := fun k hk => by
    have := aT_val s hs; have : k.val < (aT s).val := hk; omega
  have ay : ∀ r f, okr (aT s) r → G14 (ix2 r f) = ∑ k ∈ insert (m0T s) (insert (m1T s) (PA s.val)), seg L (fun k i => x (ix3 k i f)) (aT s) r k := by
    intro r f hr
    rw [h.ay, lo_eq hL hr _ (fun k i => x (ix3 k i f)) fun _ _ => rfl, hi_eq hL hr _ (fun k i => x (ix3 k i f)) fun _ _ => rfl,
      sum_ins (m01 s) (pa_m0 s hs) (pa_m1 s hs), add_assoc]
    congr 1
    by_cases h0 : s.val % 4 = 0
    · rw [if_pos h0, pa_zero s h0, Finset.sum_empty]
    · rw [if_neg h0]; exact hI.ay s.isLt hs h0 r f hr
  have az : ∀ r f, okr (aT s) r → G15 (ix2 r f)
      = ∑ k ∈ insert (m0T s) (insert (m1T s) (PA s.val)), if k < aT s then seg L (Yv L x f) (aT s) r k else 0 := by
    intro r f hr
    rw [h.az, sum_ins (m01 s) (pa_m0 s hs) (pa_m1 s hs)]
    refine congrArg₂ (· + ·) (congrArg₂ (· + ·) ?_ ?_) ?_
    · by_cases h0 : s.val % 4 = 0
      · rw [if_pos h0, pa_zero s h0, Finset.sum_empty]
      · rw [if_neg h0]; exact hI.az s.isLt hs h0 r f hr
    · by_cases hm : m0T s < aT s
      · rw [if_pos hm, if_pos hm]; exact lo_eq hL hr _ _ fun k hk => hI.y _ _ _ (hys _ hm) hk
      · rw [if_neg hm, if_neg hm]
    · by_cases hm : m1T s < aT s
      · rw [if_pos hm, if_pos hm]; exact hi_eq hL hr _ _ fun k hk => hI.y _ _ _ (hys _ hm) hk
      · rw [if_neg hm, if_neg hm]
  have yl : s.val % 4 = 3 → ∀ r f, okr (aT s) r → G12 (ix3 (aT s) r f) = Yv L x f (aT s) r := fun h3 r f hr => by
    rw [h.y1n h3 r f hr, ay r f hr, pa_last s hs h3]; rfl
  have zl : s.val % 4 = 3 → ∀ r f, okr (aT s) r → G13 (ix3 (aT s) r f)
      = (∑ k, if k < aT s then seg L (Yv L x f) (aT s) r k else 0) + seg L (Yv L x f) (aT s) r (aT s) := fun h3 r f hr => by
    rw [h.zn h3 r f, az r f hr, pa_last s hs h3]
    congr 1
    by_cases h2 : (aT s).val % 2 = 0
    · rw [if_pos h2]
      have hm := m0_diag s hs h3 h2
      refine (lo_eq hL hr _ (Yv L x f) fun k hk => ?_).trans (by rw [hm])
      rw [hm] at hk ⊢; exact yl h3 k f hk
    · rw [if_neg h2]
      have hm := m1_diag s hs h3 h2
      refine (hi_eq hL hr _ (Yv L x f) fun k hk => ?_).trans (by rw [hm])
      rw [hm] at hk ⊢; exact yl h3 k f hk
  have old : ∀ b : Fin 8, 4 * b.val + 4 ≤ s.val + 1 → ¬ (s.val % 4 = 3 ∧ b = aT s) → 4 * b.val + 4 ≤ s.val := fun b hb hn => by
    by_contra hc
    have := aT_val s hs
    exact hn ⟨by omega, Fin.ext (by omega)⟩
  refine ⟨⟨fun b r f hb hr => ?_, fun b r f hb hr => ?_, fun h1 h2 h3 r f hr => ?_, fun h1 h2 h3 r f hr => ?_, fun h1 h2 h3 => ?_⟩, fun he r f hr => ?_, fun he => ?_⟩
  · by_cases hn : s.val % 4 = 3 ∧ b = aT s
    · obtain ⟨h3, rfl⟩ := hn; exact yl h3 r f hr
    · rw [h.y1k b r f hn]; exact hI.y b r f (old b hb hn) hr
  · by_cases hn : s.val % 4 = 3 ∧ b = aT s
    · obtain ⟨h3, rfl⟩ := hn; exact zl h3 r f hr
    · rw [h.zk b r f hn]; exact hI.z b r f (old b hb hn) hr
  · have h3' : s.val % 4 ≠ 3 := by omega
    rw [aT_succ s h1 hs h3'] at hr ⊢
    rw [pa_succ s hs h3']; exact ay r f hr
  · have h3' : s.val % 4 ≠ 3 := by omega
    rw [aT_succ s h1 hs h3'] at hr ⊢
    rw [pa_succ s hs h3']; exact az r f hr
  · exact (h3 (lit5_32 _ (show s.val + 1 = 32 by omega))).elim
  · obtain ⟨h3, h7⟩ := (em_A s hs).mp (he.resolve_right fun h => by omega)
    have ho := o_a s hs h3 h7
    rw [h.outn h3 h7 r f]
    rw [ho] at hr ⊢
    unfold Ov
    rw [h7] at yl zl ⊢
    congr 1
    · funext e; exact yl h3 r e hr
    · funext e; rw [zl h3 r e hr]
      refine Eq.trans ?_ (sum_three 7 fun k => seg L (Yv L x e) 7 r k).symm
      rw [Finset.sum_eq_zero (s := Finset.univ) (f := fun k : Fin 8 => if 7 < k then seg L (Yv L x e) 7 r k else 0) fun k _ => if_neg (by omega), add_zero]
  · exact h.outk fun hc => he (.inl ((em_A s hs).mpr hc))

/-- A point of the second sweep keeps the invariant, and its output block is the one meant. -/
theorem inv_B (hs : ¬ s.val < 32) (hL : HoldsL L s X7) (hI : Inv L x s.val X12 X13 X14 X15 X16)
    (h : StepB s X7 x X9 X10 X11 X12 X13 X16 G11 G12 G13 G16) :
    Inv L x (s.val + 1) G12 G13 G14 G15 G16 ∧ (em s → ∀ r f, okr (oT s) r → G11 (ix2 r f) = Ov L x X9 X10 (oT s) r f) ∧ (¬ em s → G11 = X11) := by
  have hs' : 32 ≤ s.val := not_lt.mp hs
  have hb : ∀ b : Fin 8, 4 * b.val + 4 ≤ s.val := fun b => by omega
  have acc : ∀ r f, okr (aT s) r → G16 (ix2 r f) = (∑ k, if k < aT s then seg L (Yv L x f) (aT s) r k else 0) + seg L (Yv L x f) (aT s) r (aT s)
      + ∑ k ∈ insert (m0T s) (insert (m1T s) (PC s)), if aT s < k then seg L (Yv L x f) (aT s) r k else 0 := by
    intro r f hr
    rw [h.acc, sum_ins (m01 s) (pc_m0 s hs') (pc_m1 s hs'), ← add_assoc, ← add_assoc]
    refine congrArg₂ (· + ·) (congrArg₂ (· + ·) ?_ ?_) ?_
    · by_cases h5 : lit5 s = 1#32
      · rw [if_pos h5, pc_zero s hs' h5, Finset.sum_empty, add_zero, oT_B s hs']; exact hI.z _ r f (hb _) hr
      · rw [if_neg h5]; exact hI.acc s.isLt hs' h5 r f hr
    · by_cases hm : aT s < m0T s
      · rw [if_pos hm, if_pos hm]; exact lo_eq hL hr _ _ fun k hk => hI.y _ _ _ (hb _) hk
      · rw [if_neg hm, if_neg hm]
    · by_cases hm : aT s < m1T s
      · rw [if_pos hm, if_pos hm]; exact hi_eq hL hr _ _ fun k hk => hI.y _ _ _ (hb _) hk
      · rw [if_neg hm, if_neg hm]
  rw [h.y1k, h.zk]
  refine ⟨⟨fun b r f _ hr => hI.y b r f (hb b) hr, fun b r f _ hr => hI.z b r f (hb b) hr, fun _ h2 => by omega, fun _ h2 => by omega, fun h1 h2 h3 r f hr => ?_⟩,
    fun he r f hr => ?_, fun he => h.outk fun hc => he (.inr ⟨hs', hc⟩)⟩
  · obtain ⟨ea, ep⟩ := pc_succ s h1 hs' h3
    rw [ea] at hr ⊢
    rw [ep]; exact acc r f hr
  · have h4 : lit4 s = 1#32 := (he.resolve_left (by omega)).2
    rw [h.outn h4 r f]
    unfold Ov
    rw [oT_B s hs'] at hr ⊢
    congr 1
    · funext e; exact hI.y _ r e (hb _) hr
    · funext e
      rw [acc r e hr]
      refine Eq.trans ?_ (sum_three (aT s) fun k => seg L (Yv L x e) (aT s) r k).symm
      congr 1
      exact Finset.sum_subset (Finset.subset_univ _) fun k _ hk => if_neg fun hlt => hk (pc_last s hs' h4 k hlt)
end

end Cert.KernelIdeal.Hand
end
-- ==== Proof.Alg.lean ====
module

public import proofs.«01_k».proof.Proof.Invariant
public import proofs.«01_k».proof.Proof.Pay

@[expose] public section

set_option maxRecDepth 16384

noncomputable section

namespace Cert.KernelIdeal.Hand

open Idealize.ShloMosaic Idealize.ShloMosaic.TcCoe Idealize.ShloMosaic.Pipeline
open Idealize.SL Idealize.SL.RA Idealize.SL.BI Idealize.SL.Sem
open scoped Idealize.SL.BI
open Idealize.SL.BI.BIBase
open Cert.KernelIdeal Cert.KernelIdeal.Gen

/-- A sum over 8 blocks of 1280 rows whose terms past the 10000th are zero is the sum over the 10000 rows. -/
theorem sum_rows (G : ℕ → EReal) (h0 : ∀ n, 10000 ≤ n → G n = 0) :
    ∑ k : Fin 8, ∑ i : Fin 1280, G (1280 * k.val + i.val) = ∑ h : Fin 10000, G h.val := by
  calc ∑ k : Fin 8, ∑ i : Fin 1280, G (1280 * k.val + i.val)
      = ∑ p : Fin 8 × Fin 1280, G (1280 * p.1.val + p.2.val) := (Fintype.sum_prod_type (fun p : Fin 8 × Fin 1280 => G (1280 * p.1.val + p.2.val))).symm
    _ = ∑ n : Fin (8 * 1280), G n.val := Fintype.sum_equiv finProdFinEquiv _ _ fun p => by
        rw [finProdFinEquiv_apply_val, Nat.add_comm]
    _ = ∑ n ∈ Finset.range (8 * 1280), G n := (Finset.sum_range G).symm
    _ = ∑ n ∈ Finset.range 10000, G n := (Finset.sum_subset (Finset.range_subset_range.mpr (by norm_num))
        fun n _ hn => h0 n (by simpa using hn)).symm
    _ = ∑ h : Fin 10000, G h.val := Finset.sum_range G

/-- A sum over 4 blocks of 32 features whose terms outside block `n` are zero is the sum over that block. -/
theorem sum_block (F : Fin 128 → EReal) (n : Fin 4) (h0 : ∀ e : Fin 128, e.val / 32 ≠ n.val → F e = 0) :
    ∑ e : Fin 128, F e = ∑ i : Fin 32, F ⟨32 * n.val + i.val, by omega⟩ := by
  calc ∑ e : Fin 128, F e
      = ∑ p : Fin 4 × Fin 32, F ⟨32 * p.1.val + p.2.val, by omega⟩ := (Fintype.sum_equiv (finProdFinEquiv (m := 4) (n := 32)) _ _ fun p => by
        congr 1; apply Fin.ext; show 32 * p.1.val + p.2.val = (finProdFinEquiv p).val; rw [finProdFinEquiv_apply_val, Nat.add_comm]).symm
    _ = ∑ k : Fin 4, ∑ i : Fin 32, F ⟨32 * k.val + i.val, by omega⟩ := Fintype.sum_prod_type (fun p : Fin 4 × Fin 32 => F ⟨32 * p.1.val + p.2.val, by omega⟩)
    _ = ∑ i : Fin 32, F ⟨32 * n.val + i.val, by omega⟩ := Fintype.sum_eq_single n fun k hk => Finset.sum_eq_zero fun i _ => h0 _ fun h => hk (Fin.ext (by
        simp only at h; omega))

/-- Row `1280 b + r` of `L` against a column held by blocks. -/
theorem seg_sum (L : Vec Ideal S10000x10000 .f32) (u : Fin 8 → Fin 1280 → EReal) (v : Fin 10000 → EReal)
    (hu : ∀ (k : Fin 8) (i : Fin 1280) (h : 1280 * k.val + i.val < 10000), u k i = v ⟨1280 * k.val + i.val, h⟩)
    (b : Fin 8) (r : Fin 1280) (g : Fin 10000) (hg : g.val = 1280 * b.val + r.val) :
    ∑ k : Fin 8, seg L u b r k = ∑ h : Fin 10000, L (ix2 g h) * v h := by
  have hb : 1280 * b.val + r.val < 10000 := hg ▸ g.isLt
  obtain rfl : g = ⟨1280 * b.val + r.val, hb⟩ := Fin.ext hg
  refine Eq.trans ?_ ((sum_rows (fun n => if h : n < 10000 then L (ix2 ⟨1280 * b.val + r.val, hb⟩ ⟨n, h⟩) * v ⟨n, h⟩ else 0)
    fun n hn => dif_neg (by omega)).trans (Finset.sum_congr rfl fun h _ => dif_pos h.isLt))
  refine Finset.sum_congr rfl fun k _ => Finset.sum_congr rfl fun i _ => ?_
  unfold Lat
  by_cases h : 1280 * k.val + i.val < 10000
  · rw [dif_pos ⟨hb, h⟩, dif_pos h, hu k i h]
  · rw [dif_neg fun h' => h h'.2, dif_neg h, zero_mul]

/-- Multiplying a difference by a finite number, where what is taken off is finite. -/
theorem sub_mul_real (A : EReal) (a w : ℝ) : (A - (a : EReal)) * (w : EReal) = A * (w : EReal) + ((-(a * w) : ℝ) : EReal) := by
  induction A using EReal.rec with
  | coe A => norm_cast; ring
  | top =>
    rw [EReal.top_sub_coe]
    rcases lt_trichotomy w 0 with h | h | h
    · rw [EReal.top_mul_coe_of_neg h, EReal.bot_add]
    · subst h; simp
    · rw [EReal.top_mul_coe_of_pos h, EReal.top_add_coe]
  | bot =>
    rw [EReal.bot_sub]
    rcases lt_trichotomy w 0 with h | h | h
    · rw [EReal.bot_mul_coe_of_neg h, EReal.top_add_coe]
    · subst h; simp
    · rw [EReal.bot_mul_coe_of_pos h, EReal.bot_add]

/-- The kernel's regrouping of the three products is the reference's where `x` and the last weight are finite. -/
theorem regroup {ι : Type} [Fintype ι] (x w0 w2 y w1 z : ι → EReal) (B : EReal) (hx : ∀ i, ∃ a : ℝ, x i = a) (hw : ∀ i, ∃ a : ℝ, w2 i = a) :
    (∑ i, x i * (w0 i - w2 i)) + (∑ i, y i * w1 i) + (∑ i, z i * w2 i) + B
      = ((∑ i, x i * w0 i) + ∑ i, y i * w1 i) + (∑ i, (z i - x i) * w2 i) + B := by
  choose a ha using hx
  choose w hw using hw
  have e1 : ∀ i, x i * (w0 i - w2 i) = x i * w0 i + ((-(a i * w i) : ℝ) : EReal) := fun i => by
    rw [ha, hw, mul_comm, sub_mul_real, mul_comm (w0 i), mul_comm (w i)]
  have e2 : ∀ i, (z i - x i) * w2 i = z i * w2 i + ((-(a i * w i) : ℝ) : EReal) := fun i => by
    rw [ha, hw, sub_mul_real]
  simp only [e1, e2, Finset.sum_add_distrib]
  congr 1
  generalize ∑ i, x i * w0 i = A, ∑ i, y i * w1 i = Y, ∑ i, z i * w2 i = Z, ∑ i, ((-(a i * w i) : ℝ) : EReal) = N
  rw [← add_assoc, add_right_comm A N Y, add_right_comm (A + Y) N Z]

end Cert.KernelIdeal.Hand
end
-- ==== Proof.VDats.lean ====
module

public import proofs.«01_k».proof.Proof.Invariant
public import proofs.«01_k».proof.Proof.Frame

@[expose] public section

set_option maxRecDepth 16384

noncomputable section

namespace Cert.KernelIdeal.Hand

open Idealize.ShloMosaic Idealize.ShloMosaic.TcCoe Idealize.ShloMosaic.Pipeline
open Idealize.SL Idealize.SL.RA Idealize.SL.BI Idealize.SL.Sem
open scoped Idealize.SL.BI
open Idealize.SL.BI.BIBase
open Cert.KernelIdeal Cert.KernelIdeal.Gen

local notation "𝕄" => MT nD τ sig Unit (Elt Ideal) ℕ (UR sig nD τ) ℕ

/-- The call's configuration at its tables. -/
abbrev cfgI : Pipeline.Cfg sig Λ₀ := cfg0 (F := Ideal) (adm 0)

/-! ## The windows at each point -/

theorem coords0 : ∀ t : Fin 48, ((grid0.coords t) 0).val = t.val := by decide +kernel
theorem ix_0 : ∀ t : Fin 48, cc0_transform_0 (grid0.coords t) = ![(aT t).val, (m0T t).val / 2] := by decide +kernel
theorem xs_0 : ∀ t : Fin 48, (cfgI.win 0).xsize (grid0.coords t) 0 = (if aT t = 7 then 1040 else 1280)
    ∧ (cfgI.win 0).xsize (grid0.coords t) 1 = 1280 + wT t := by decide +kernel
theorem xs_4 : ∀ t : Fin 48, em t → (cfgI.win 4).xsize (grid0.coords t) 0 = (if oT t = 7 then 1040 else 1280)
    ∧ (cfgI.win 4).xsize (grid0.coords t) 1 = 128 := by unfold em; decide +kernel
theorem ix_4 : ∀ t : Fin 48, em t → cc0_transform_4 (grid0.coords t) = ![(oT t).val, 0] := by unfold em; decide +kernel
theorem fetch_0 : ∀ t : Fin cfgI.N, (cfgI.win 0).fetch t = true := by decide +kernel
theorem flush_4 : ∀ t : Fin cfgI.N, (cfgI.win 4).flush t = true ↔ em t := by unfold em; decide +kernel
theorem idle_4 : ∀ t : Fin 48, ¬ em t → cfgI.idle 4 (grid0.coords t) = true := by unfold em; decide +kernel
theorem m0_m1 : ∀ t : Fin 48, (m0T t).val = 2 * ((m0T t).val / 2) ∧ (m1T t).val = 2 * ((m0T t).val / 2) + 1 := by decide +kernel
/-- Every output block is written at some point. -/
theorem em_cover : ∀ b : Fin 8, ∃ t : Fin 48, em t ∧ oT t = b := by unfold em; decide +kernel

theorem index_123 : ∀ t : Fin 48, (∀ a, cc0_transform_1 (grid0.coords t) a = 0) ∧ (∀ a, cc0_transform_2 (grid0.coords t) a = 0)
    ∧ (∀ a, cc0_transform_3 (grid0.coords t) a = 0) := by decide +kernel

/-! ## What the windows hold -/

section
variable (V : Dev nD → Valuation τ sig (Elt Ideal)) (c : Dev nD)

/-- The arrays the call finds. -/
def aL : Vec Ideal S10000x10000 .f32 := V c (Proc.devRef .tc main_arg1)
def aX : Vec Ideal S8x1280x128 .f32 := V c (Proc.devRef .tc main_call0_v5)
def aW : Vec Ideal S3x128x128 .f32 := V c (Proc.devRef .tc main_call0_v18)
def aB : Vec Ideal S1x128 .f32 := V c (Proc.devRef .tc main_call0_v19)

/-- The block of `L` a point names: the array's own part of it. -/
def lblk (t : Fin cfgI.N) : ((cfgI.win 0).xblock (cfgI.grid.coords t)).Idx → Ideal .f32 :=
  ((cfgI.win 0).blk t).view.read (Elt Ideal) (V c (Proc.devRef .tc (arrRef spec0 0)))

/-- The output block of each point that writes one. -/
def oblk (t : Fin 48) : Vec Ideal S1280x128 .f32 := fun j => Ov (aL V c) (aX V c) (aW V c) (aB V c) (oT t) (j 0) (j 1)

/-- Between two points: the scratch buffers at contents that satisfy the invariant, and the tables. -/
def ΦV (n : ℕ) : sProp 𝕄 :=
  iprop((∃ (g0 : Buf (Elt Ideal) ((Memref.whole cc0_scratch0 : Memref sig .tc _ _ _).view.loc (c : Thread nD τ)))
      (g1 : Buf (Elt Ideal) ((Memref.whole cc0_scratch1 : Memref sig .tc _ _ _).view.loc (c : Thread nD τ)))
      (g2 : Buf (Elt Ideal) ((Memref.whole cc0_scratch2 : Memref sig .tc _ _ _).view.loc (c : Thread nD τ)))
      (g3 : Buf (Elt Ideal) ((Memref.whole cc0_scratch3 : Memref sig .tc _ _ _).view.loc (c : Thread nD τ)))
      (g4 : Buf (Elt Ideal) ((Memref.whole cc0_scratch4 : Memref sig .tc _ _ _).view.loc (c : Thread nD τ))),
      ⌜Inv (aL V c) (aX V c) n ((Memref.whole cc0_scratch0 : Memref sig .tc _ _ _).view.read (Elt Ideal) g0)
        ((Memref.whole cc0_scratch1 : Memref sig .tc _ _ _).view.read (Elt Ideal) g1) ((Memref.whole cc0_scratch2 : Memref sig .tc _ _ _).view.read (Elt Ideal) g2)
        ((Memref.whole cc0_scratch3 : Memref sig .tc _ _ _).view.read (Elt Ideal) g3) ((Memref.whole cc0_scratch4 : Memref sig .tc _ _ _).view.read (Elt Ideal) g4)⌝
      ∗ ((Memref.whole cc0_scratch0 : Memref sig .tc _ _ _).view.loc (c : Thread nD τ) ↦{fullShare} g0)
      ∗ ((Memref.whole cc0_scratch1 : Memref sig .tc _ _ _).view.loc (c : Thread nD τ) ↦{fullShare} g1)
      ∗ ((Memref.whole cc0_scratch2 : Memref sig .tc _ _ _).view.loc (c : Thread nD τ) ↦{fullShare} g2)
      ∗ ((Memref.whole cc0_scratch3 : Memref sig .tc _ _ _).view.loc (c : Thread nD τ) ↦{fullShare} g3)
      ∗ ((Memref.whole cc0_scratch4 : Memref sig .tc _ _ _).view.loc (c : Thread nD τ) ↦{fullShare} g4))
    ∗ (∃ r, prngReg c r) ∗ ΦT pre0 tabs c)

/-- The values of the call: the scratch buffers satisfy the invariant before each point. -/
def vdats (p : Fin 1) (c : Dev nD) : Pipeline.Dat τ (Elt Ideal) Unit ℕ (UR sig nD τ) ℕ (Pipeline.pin (pcfgs (F := Ideal)) adm p) c where
  A w := V c (Proc.devRef .tc (arrRef spec0 w))
  after w t := match w with
    | 0 => (cfgI.win 0).fill (cfgI.grid.coords t) (fun _ => Classical.arbitrary _) (lblk V c t)
    | 1 => aX V c
    | 2 => aW V c
    | 3 => aB V c
    | 4 => oblk V c t
  Φ t := ΦV V c t.val
  q _ := fullShare
  owed _ := 0

theorem blk_1 (t : Fin cfgI.N) : (cfgI.win 1).cut (cfgI.grid.coords t) (aX V c) = (vdats V 0 c).blockOf 1 t := by
  funext j
  show aX V c _ = aX V c (((cfgI.win 1).rect t).emb j)
  refine congrArg (aX V c) (funext fun a => Fin.ext ?_)
  exact ((cfgI.win 1).rect_emb_val_of_index_zero t a ((index_123 t).1 a) j).symm
theorem blk_2 (t : Fin cfgI.N) : (cfgI.win 2).cut (cfgI.grid.coords t) (aW V c) = (vdats V 0 c).blockOf 2 t := by
  funext j
  show aW V c _ = aW V c (((cfgI.win 2).rect t).emb j)
  refine congrArg (aW V c) (funext fun a => Fin.ext ?_)
  exact ((cfgI.win 2).rect_emb_val_of_index_zero t a ((index_123 t).2.1 a) j).symm
theorem blk_3 (t : Fin cfgI.N) : (cfgI.win 3).cut (cfgI.grid.coords t) (aB V c) = (vdats V 0 c).blockOf 3 t := by
  funext j
  show aB V c _ = aB V c (((cfgI.win 3).rect t).emb j)
  refine congrArg (aB V c) (funext fun a => Fin.ext ?_)
  exact ((cfgI.win 3).rect_emb_val_of_index_zero t a ((index_123 t).2.2 a) j).symm

theorem before_0 (t : Fin cfgI.N) (d) : (vdats V 0 c).before 0 t d = (cfgI.win 0).fill (cfgI.grid.coords t) d (lblk V c t) :=
  (vdats V 0 c).before_fetched 0 t (fetch_0 t) d
theorem before_1 (t : Fin cfgI.N) (d) : (vdats V 0 c).before 1 t d = aX V c := by
  rw [(vdats V 0 c).before_in_eq_fetched 1 rfl (fun _ => rfl) (fun _ _ _ => rfl) (fun t => blk_1 V c t) t d]
  rw [(vdats V 0 c).fetched_of_clip_none 1 t (fun _ => rfl) d (aX V c)]
  unfold Dat.fetched; rw [← blk_1]; exact (cfgI.win 1).fill_cut _ _
theorem before_2 (t : Fin cfgI.N) (d) : (vdats V 0 c).before 2 t d = aW V c := by
  rw [(vdats V 0 c).before_in_eq_fetched 2 rfl (fun _ => rfl) (fun _ _ _ => rfl) (fun t => blk_2 V c t) t d]
  rw [(vdats V 0 c).fetched_of_clip_none 2 t (fun _ => rfl) d (aW V c)]
  unfold Dat.fetched; rw [← blk_2]; exact (cfgI.win 2).fill_cut _ _
theorem before_3 (t : Fin cfgI.N) (d) : (vdats V 0 c).before 3 t d = aB V c := by
  rw [(vdats V 0 c).before_in_eq_fetched 3 rfl (fun _ => rfl) (fun _ _ _ => rfl) (fun t => blk_3 V c t) t d]
  rw [(vdats V 0 c).fetched_of_clip_none 3 t (fun _ => rfl) d (aB V c)]
  unfold Dat.fetched; rw [← blk_3]; exact (cfgI.win 3).fill_cut _ _

/-- A staged block of `L` at a place inside the array. -/
theorem fill_0 (t : Fin 48) (d) (r : Fin 1280) (k : Fin 2560) (hr : okr (aT t) r) (hk : k.val < 1280 + wT t) (h1 h2) :
    (cfgI.win 0).fill (cfgI.grid.coords t) d (lblk V c t) (ix2 r k)
      = aL V c (ix2 ⟨1280 * (aT t).val + r.val, h1⟩ ⟨2560 * ((m0T t).val / 2) + k.val, h2⟩) := by
  have hm : (cfgI.win 0).moved (cfgI.grid.coords t) (ix2 r k) = true := ((cfgI.win 0).moved_iff _ _).mpr fun a => by
    fin_cases a
    · show r.val < (cfgI.win 0).xsize (grid0.coords t) 0
      rw [(xs_0 t).1]; split
      · next h => exact hr.resolve_left fun h' => h' h
      · exact r.isLt
    · show k.val < (cfgI.win 0).xsize (grid0.coords t) 1
      rw [(xs_0 t).2]; exact hk
  unfold Window.fill; rw [dif_pos hm]
  show aL V c (((cfgI.win 0).rect t).emb _) = _
  have hi : (cfgI.win 0).index t = ![(aT t).val, (m0T t).val / 2] := ix_0 t
  refine congrArg (aL V c) (funext fun a => Fin.ext ?_)
  rw [(cfgI.win 0).rect_emb_val t]
  fin_cases a
  · show (cfgI.win 0).index t 0 * 1280 + r.val = 1280 * (aT t).val + r.val
    rw [hi]; show (aT t).val * 1280 + r.val = _; omega
  · show (cfgI.win 0).index t 1 * 2560 + k.val = _
    rw [hi]; show (m0T t).val / 2 * 2560 + k.val = 2560 * ((m0T t).val / 2) + k.val; omega

theorem holdsL (t : Fin 48) (d) : HoldsL (aL V c) t ((cfgI.win 0).fill (cfgI.grid.coords t) d (lblk V c t)) := by
  intro r hr
  have ha := (aT t).isLt
  have h01 := m0_m1 t
  have h7 : (aT t).val = 7 → r.val < 1040 := fun h => hr.resolve_left fun h' => h' (Fin.ext h)
  have h1 : 1280 * (aT t).val + r.val < 10000 := by omega
  have hm7 : (m0T t).val ≠ 7 := fun h => m0_ne7 t (Fin.ext h)
  have hm := (m0T t).isLt
  have hm' := (m1T t).isLt
  refine ⟨fun k => ?_, fun k hk => ?_⟩
  · have h2 : 1280 * (m0T t).val + k.val < 10000 := by omega
    rw [fill_0 V c t d r _ hr (by show k.val < _; omega) h1 (by show _ + k.val < _; omega)]
    unfold Lat; rw [dif_pos ⟨h1, h2⟩]
    refine congrArg (fun z => aL V c (ix2 _ z)) (Fin.ext ?_)
    show 2560 * ((m0T t).val / 2) + k.val = 1280 * (m0T t).val + k.val; omega
  · have hw : (m1T t).val = 7 → k.val < 1040 := fun h => by rw [wT_of_eq t (Fin.ext h)] at hk; exact hk
    have h2 : 1280 * (m1T t).val + k.val < 10000 := by omega
    rw [fill_0 V c t d r _ hr (by show 1280 + k.val < _; omega) h1 (by show _ + (1280 + k.val) < _; omega)]
    unfold Lat; rw [dif_pos ⟨h1, h2⟩]
    refine congrArg (fun z => aL V c (ix2 _ z)) (Fin.ext ?_)
    show 2560 * ((m0T t).val / 2) + (1280 + k.val) = 1280 * (m1T t).val + k.val; omega

/-- An output block right on the rows inside the array agrees with the block meant on the part written back. -/
theorem fill_4 (t : Fin 48) (he : em t) (G : Vec Ideal S1280x128 .f32) (h : ∀ r f, okr (oT t) r → G (ix2 r f) = oblk V c t (ix2 r f)) :
    (cfgI.win 4).fill (cfgI.grid.coords t) G ((cfgI.win 4).cut (cfgI.grid.coords t) (oblk V c t)) = G := by
  funext j
  unfold Window.fill
  split
  · next hj =>
    have hx := ((cfgI.win 4).moved_iff _ _).mp hj 0
    have hx' : (j 0).val < (cfgI.win 4).xsize (grid0.coords t) 0 := hx
    rw [(xs_4 t he).1] at hx'
    have hr : okr (oT t) (j 0) := by
      by_cases h7 : oT t = 7
      · rw [if_pos h7] at hx'; exact .inr hx'
      · exact .inl h7
    have key : ∀ j' : S1280x128.Idx, okr (oT t) (j' 0) → oblk V c t j' = G j' := fun j' hj' => by
      rw [eq_ix2 j']; exact (h _ _ hj').symm
    exact key j hr
  · rfl
end

end Cert.KernelIdeal.Hand
end
-- ==== Proof.HostVals.lean ====
module

public import proofs.«01_k».proof.Proof.VDats
public import proofs.«01_k».proof.Proof.FrameRun
public import Idealize.ShloMosaic.Lib.StableHlo.ReadAt
public import Idealize.ShloMosaic.Lib.Pointwise
public import Idealize.ShloMosaic.Lib.Routing.OpsSet
public import Idealize.ShloMosaic.Lib.Routing.OpsPair

@[expose] public section

set_option maxRecDepth 16384

noncomputable section

namespace Cert.KernelIdeal.Hand

open Idealize.ShloMosaic Idealize.ShloMosaic.TcCoe Idealize.ShloMosaic.Pipeline
open Idealize.SL Idealize.SL.RA Idealize.SL.BI Idealize.SL.Sem
open scoped Idealize.SL.BI
open Idealize.SL.BI.BIBase
open Cert.KernelIdeal Cert.KernelIdeal.Gen

section
variable (x : Vec Ideal S4x10000x32 .f32) (w : Vec Ideal S4x3x32x32 .f32) (b : Vec Ideal S4x32 .f32)

/-- The rows of `x` side by side: task and feature make one axis. -/
def hx1 : Vec Ideal S10000x128 .f32 :=
  shapeCast S10000x128 (transpose S10000x4x32 [1, 0, 2] x transposes_S4x10000x32_S10000x4x32_1_0_2) shapeCasts_S10000x4x32_S10000x128

/-- Those rows at the head of an array of 8 blocks of 1280 rows. -/
def hx5 : Vec Ideal S8x1280x128 .f32 :=
  shapeCast S8x1280x128 (Host.scatter scatter_S10240x128_S1_S10000x128_01_n_0_0 (fun _ b => b)
    (broadcastInDim S10240x128 ![] bcast_S_S10240x128 (constant (F := Ideal) S_ .f32 0x00000000#32))
    (broadcastInDim S1 ![] bcast_S_S1 (constantI S_ 32 0#32)) (hx1 x)) shapeCasts_S10240x128_S8x1280x128

/-- The weights as blocks on a diagonal. -/
def hw18 : Vec Ideal S3x128x128 .f32 :=
  shapeCast S3x128x128 (transpose S3x4x32x4x32 [2, 1, 3, 0, 4]
    (mulf (F := Ideal) (φ := .f32) (broadcastInDim S4x4x3x32x32 ![0, 1, 2, 3, 4] bcast_S4x4x1x1x1_S4x4x3x32x32_0_1_2_3_4
        (broadcastInDim S4x4x1x1x1 ![0, 1] bcast_S4x4_S4x4x1x1x1_0_1
          (uitofp .f32 (cmpi .eq (addi (iotaInDim S4x4 32 0) (broadcastInDim S4x4 ![] bcast_S_S4x4 (constantI S_ 32 0#32))) (iotaInDim S4x4 32 1)))))
      (broadcastInDim S4x4x3x32x32 ![0, 1, 2, 3, 4] bcast_S4x1x3x32x32_S4x4x3x32x32_0_1_2_3_4
        (broadcastInDim S4x1x3x32x32 ![0, 2, 3, 4] bcast_S4x3x32x32_S4x1x3x32x32_0_2_3_4 w)))
    transposes_S4x4x3x32x32_S3x4x32x4x32_2_1_3_0_4) shapeCasts_S3x4x32x4x32_S3x128x128

theorem hx1_at (g : Fin 10000) (f : Fin 128) : hx1 x (ix2 g f) = x (ix3 ⟨f.val / 32, by omega⟩ g ⟨f.val % 32, by omega⟩) := by
  pointwise [hx1]

theorem bit_mul : ∀ (a b : Fin 4) (v : Ideal .f32),
    (FloatOps.uitofp .f32 (IntOp.cmpi .eq (IntOp.addi (BitVec.ofNat 32 b.val) 0#32) (BitVec.ofNat 32 a.val)) : Ideal .f32) * v = if a.val = b.val then v else (0 : EReal) := by
  intro a b v
  have hb : ∀ a b : Fin 4, IntOp.cmpi .eq (IntOp.addi (BitVec.ofNat 32 b.val) 0#32) (BitVec.ofNat 32 a.val) = if a.val = b.val then 1#1 else 0#1 := by decide
  rw [hb a b]
  have one : (FloatOps.uitofp .f32 (1#1) : Ideal .f32) = (1 : EReal) := by
    show (((1#1 : BitVec 1).toNat : ℝ) : EReal) = 1
    rw [show (1#1 : BitVec 1).toNat = 1 from rfl, Nat.cast_one]; rfl
  have zero : (FloatOps.uitofp .f32 (0#1) : Ideal .f32) = (0 : EReal) := by
    show (((0#1 : BitVec 1).toNat : ℝ) : EReal) = 0
    rw [show (0#1 : BitVec 1).toNat = 0 from rfl, Nat.cast_zero]; rfl
  by_cases hpq : a.val = b.val
  · rw [if_pos hpq, if_pos hpq, one]; exact one_mul _
  · rw [if_neg hpq, if_neg hpq, zero]; exact zero_mul _

theorem hw18_at (k : Fin 3) (p q : Fin 128) : hw18 w (ix3 k p q)
    = if p.val / 32 = q.val / 32 then w (ix4 ⟨q.val / 32, by omega⟩ k ⟨p.val % 32, by omega⟩ ⟨q.val % 32, by omega⟩) else 0 := by
  refine Eq.trans ?_ (bit_mul ⟨p.val / 32, by omega⟩ ⟨q.val / 32, by omega⟩ _)
  pointwise [hw18]

theorem hx5_at (b : Fin 8) (r : Fin 1280) (f : Fin 128) (h : 1280 * b.val + r.val < 10000) : hx5 x (ix3 b r f) = hx1 x (ix2 ⟨1280 * b.val + r.val, h⟩ f) := by
  have hs : ∀ (k : S10000x128.Idx) a, scatter_S10240x128_S1_S10000x128_01_n_0_0.start k (broadcastInDim S1 ![] bcast_S_S1 (constantI S_ 32 0#32)) a = 0 :=
    fun k a => by fin_cases a <;> rfl
  have hw : ∀ (k : S10000x128.Idx) a, scatter_S10240x128_S1_S10000x128_01_n_0_0.window k a = (k a).val := fun k a => by fin_cases a <;> rfl
  have key : ∀ h' : b.val * 1280 + r.val < 10240, Host.scatter scatter_S10240x128_S1_S10000x128_01_n_0_0 (fun _ b => b)
      (broadcastInDim S10240x128 ![] bcast_S_S10240x128 (constant (F := Ideal) S_ .f32 0x00000000#32))
      (broadcastInDim S1 ![] bcast_S_S1 (constantI S_ 32 0#32)) (hx1 x) (ix2 ⟨b.val * 1280 + r.val, h'⟩ f) = hx1 x (ix2 ⟨1280 * b.val + r.val, h⟩ f) := fun h' => by
    refine Idealize.ShloMosaic.Routing.scatter_set_hit _ _ _ _ _ _ (fun k hk => ?_) (ix2 ⟨1280 * b.val + r.val, h⟩ f) ?_
    · rw [Idealize.ShloMosaic.Routing.resultIdx?_eq_some] at hk
      have h0 := hk 0
      have h1 := hk 1
      rw [hs, hw] at h0 h1
      refine congrArg (hx1 x) (funext fun a => Fin.ext ?_)
      match a with
      | ⟨0, _⟩ => have : ((k 0).val : ℤ) = ((b.val * 1280 + r.val : ℕ) : ℤ) := (zero_add _).symm.trans h0
                  show (k 0).val = 1280 * b.val + r.val; omega
      | ⟨1, _⟩ => have : ((k 1).val : ℤ) = ((f.val : ℕ) : ℤ) := (zero_add _).symm.trans h1
                  show (k 1).val = f.val; omega
    · rw [Idealize.ShloMosaic.Routing.resultIdx?_eq_some]
      intro a
      rw [hs, hw, zero_add]
      match a with
      | ⟨0, _⟩ => show ((1280 * b.val + r.val : ℕ) : ℤ) = ((b.val * 1280 + r.val : ℕ) : ℤ); omega
      | ⟨1, _⟩ => rfl
  clear hs hw
  pointwise [hx5]
  exact key _
end

section
variable (m : (ℓ : Loc nD τ sig) → Buf (Elt Ideal) ℓ) (c : Dev nD)
set_option backward.isDefEq.respectTransparency.types false

theorem aL_eq : aL (V₀ m) c = m ((c : Thread nD τ).loc main_arg1) := V₀_of m c (b := main_arg1) (by decide)
theorem aX_eq : aX (V₀ m) c = hx5 (m ((c : Thread nD τ).loc main_arg0)) := by
  unfold aX V₀ hx5 hx1
  funext j
  after_reads_simp
  try simp -implicitDefEqProofs only [StableHlo.TRef.toBuf, StableHlo.TRef.ofBuf, cast_cast, cast_eq]
  clean_types
  rfl
theorem aW_eq : aW (V₀ m) c = hw18 (m ((c : Thread nD τ).loc main_arg2)) := by
  unfold aW V₀ hw18
  funext j
  after_reads_simp
  try simp -implicitDefEqProofs only [StableHlo.TRef.toBuf, StableHlo.TRef.ofBuf, cast_cast, cast_eq]
  clean_types
  rfl
theorem aB_eq : aB (V₀ m) c = shapeCast S1x128 (m ((c : Thread nD τ).loc main_arg3) : Vec Ideal S4x32 .f32) shapeCasts_S4x32_S1x128 := by
  unfold aB V₀
  funext j
  after_reads_simp
  try simp -implicitDefEqProofs only [StableHlo.TRef.toBuf, StableHlo.TRef.ofBuf, cast_cast, cast_eq]
  clean_types
  rfl
end

end Cert.KernelIdeal.Hand
end
-- ==== Proof.RunA.lean ====
module

public import proofs.«01_k».proof.Proof.Steps
public import proofs.«01_k».proof.Proof.BodyRuns

@[expose] public section

set_option maxRecDepth 16384

noncomputable section

namespace Cert.KernelIdeal.Hand

open Idealize.ShloMosaic Idealize.ShloMosaic.TcCoe Idealize.ShloMosaic.Pipeline
open Idealize.SL Idealize.SL.RA Idealize.SL.BI Idealize.SL.Sem
open scoped Idealize.SL.BI
open Idealize.SL.BI.BIBase
open Cert.KernelIdeal Cert.KernelIdeal.Gen

local notation "𝕄" => MT nD τ sig Unit (Elt Ideal) ℕ (UR sig nD τ) ℕ

variable (c : Dev nD) (i : grid0.Coords) (E : Set ℕ) (q : PosShare TreeShare)
  (M1 : Memref sig .tc .smem S48 .i32) (h1 : M1.IsWhole)
  (M2 : Memref sig .tc .smem S48 .i32) (h2 : M2.IsWhole)
  (M3 : Memref sig .tc .smem S48 .i32) (h3 : M3.IsWhole)
  (M4 : Memref sig .tc .smem S48 .i32) (h4 : M4.IsWhole)
  (M5 : Memref sig .tc .smem S48 .i32) (h5 : M5.IsWhole)
  (M6 : Memref sig .tc .smem S48 .i32) (h6 : M6.IsWhole)
  (M7 : Memref sig .tc .vmem S1280x2560 .f32) (h7 : M7.IsWhole)
  (M8 : Memref sig .tc .vmem S8x1280x128 .f32) (h8 : M8.IsWhole)
  (M9 : Memref sig .tc .vmem S3x128x128 .f32) (h9 : M9.IsWhole)
  (M10 : Memref sig .tc .vmem S1x128 .f32) (h10 : M10.IsWhole)
  (M11 : Memref sig .tc .vmem S1280x128 .f32) (h11 : M11.IsWhole)
  (M12 : Memref sig .tc .vmem S8x1280x128 .f32) (h12 : M12.IsWhole)
  (M13 : Memref sig .tc .vmem S8x1280x128 .f32) (h13 : M13.IsWhole)
  (M14 : Memref sig .tc .vmem S1280x128 .f32) (h14 : M14.IsWhole)
  (M15 : Memref sig .tc .vmem S1280x128 .f32) (h15 : M15.IsWhole)
  (M16 : Memref sig .tc .vmem S1280x128 .f32) (h16 : M16.IsWhole)
  (f1 : Buf (Elt Ideal) (M1.view.loc (c : Thread nD τ)))
  (f2 : Buf (Elt Ideal) (M2.view.loc (c : Thread nD τ)))
  (f3 : Buf (Elt Ideal) (M3.view.loc (c : Thread nD τ)))
  (f4 : Buf (Elt Ideal) (M4.view.loc (c : Thread nD τ)))
  (f5 : Buf (Elt Ideal) (M5.view.loc (c : Thread nD τ)))
  (f6 : Buf (Elt Ideal) (M6.view.loc (c : Thread nD τ)))
  (f7 : Buf (Elt Ideal) (M7.view.loc (c : Thread nD τ)))
  (f8 : Buf (Elt Ideal) (M8.view.loc (c : Thread nD τ)))
  (f9 : Buf (Elt Ideal) (M9.view.loc (c : Thread nD τ)))
  (f10 : Buf (Elt Ideal) (M10.view.loc (c : Thread nD τ)))
  (f11 : Buf (Elt Ideal) (M11.view.loc (c : Thread nD τ)))
  (f12 : Buf (Elt Ideal) (M12.view.loc (c : Thread nD τ)))
  (f13 : Buf (Elt Ideal) (M13.view.loc (c : Thread nD τ)))
  (f14 : Buf (Elt Ideal) (M14.view.loc (c : Thread nD τ)))
  (f15 : Buf (Elt Ideal) (M15.view.loc (c : Thread nD τ)))
  (f16 : Buf (Elt Ideal) (M16.view.loc (c : Thread nD τ)))

set_option maxHeartbeats 2000000 in
/-- A point of the first sweep at a chunk inside the array does what `StepA` says. -/
theorem run_A
    (e1 : tw c M1 f1 i = lit0 (i 0)) (e2 : tw c M2 f2 i = lit1 (i 0)) (e3 : tw c M3 f3 i = lit2 (i 0)) (e4 : tw c M4 f4 i = lit3 (i 0))
    (e5 : tw c M5 f5 i = lit4 (i 0)) (e6 : tw c M6 f6 i = lit5 (i 0))
    (hc1 : k0_cond1 (tw c M2 f2 i) = 1#1) (hc2 : k0_cond2 i = 1#1) (hc10 : ¬ k0_cond10 i = 1#1) (hc15 : ¬ k0_cond15 (tw c M2 f2 i) = 1#1)
    (K : PUnit → sProp 𝕄) :
    iprop(Held c q M1 M2 M3 M4 M5 M6 M7 M8 M9 M10 M11 M12 M13 M14 M15 M16 f1 f2 f3 f4 f5 f6 f7 f8 f9 f10 f11 f12 f13 f14 f15 f16
      ∗ (∀ (g11 : Buf (Elt Ideal) (M11.view.loc (c : Thread nD τ))) (g12 : Buf (Elt Ideal) (M12.view.loc (c : Thread nD τ))) (g13 : Buf (Elt Ideal) (M13.view.loc (c : Thread nD τ))) (g14 : Buf (Elt Ideal) (M14.view.loc (c : Thread nD τ))) (g15 : Buf (Elt Ideal) (M15.view.loc (c : Thread nD τ))) (g16 : Buf (Elt Ideal) (M16.view.loc (c : Thread nD τ))),
          (Held c q M1 M2 M3 M4 M5 M6 M7 M8 M9 M10 M11 M12 M13 M14 M15 M16 f1 f2 f3 f4 f5 f6 f7 f8 f9 f10 g11 g12 g13 g14 g15 g16
            ∗ ⌜StepA (i 0) (M7.view.read (Elt Ideal) f7) (M8.view.read (Elt Ideal) f8) (M9.view.read (Elt Ideal) f9) (M10.view.read (Elt Ideal) f10) (M11.view.read (Elt Ideal) f11)
                (M12.view.read (Elt Ideal) f12) (M13.view.read (Elt Ideal) f13) (M14.view.read (Elt Ideal) f14) (M15.view.read (Elt Ideal) f15)
                (M11.view.read (Elt Ideal) g11) (M12.view.read (Elt Ideal) g12) (M13.view.read (Elt Ideal) g13) (M14.view.read (Elt Ideal) g14) (M15.view.read (Elt Ideal) g15)⌝) -∗ K ⟨⟩))
      ⊢ wp frame (wpE (defs₀ (F := Ideal)) 𝒱₀ c none) E
          (cc0__body i M1 h1 M2 h2 M3 h3 M4 h4 M5 h5 M6 h6 M7 h7 M8 h8 M9 h9 M10 h10 M11 h11 M12 h12 M13 h13 M14 h14 M15 h15 M16 h16) K := by
  have k1 : k0_chk1 i (tw c M1 f1 i) (tw c M2 f2 i) := by rw [e1, e2]; exact chk1_lit _
  have k2 : k0_chk2 i (tw c M1 f1 i) (tw c M2 f2 i) (tw c M3 f3 i) := by rw [e1, e2, e3]; exact chk2_lit _
  have k3 : k0_chk3 i (tw c M1 f1 i) (tw c M2 f2 i) (tw c M3 f3 i) (tw c M4 f4 i) := by rw [e1, e2, e3, e4]; exact chk3_lit _
  have k5 : k0_chk5 i (tw c M2 f2 i) (tw c M4 f4 i) (tw c M5 f5 i) := by rw [e2, e4, e5]; exact chk5_lit _
  have k4 : k0_chk4 i (tw c M2 f2 i) (tw c M4 f4 i) (tw c M6 f6 i) := by rw [e2, e4, e6]; exact chk4_lit _
  simp only [cc0__body_eq_skeleton]; unfold cc0__body_skel Held
  iintro ⟨⟨H1, H2, H3, H4, H5, H6, H7, H8, H9, H10, H11, H12, H13, H14, H15, H16⟩, Hk⟩
  sl_exec
  sl_step
  iapply Hk
  isplitl [H1 H2 H3 H4 H5 H6 H7 H8 H9 H10 H11 H12 H13 H14 H15 H16]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  ipureintro
  have hs : (i 0).val < 32 := (c2_s i).mp hc2
  have hw : wT (i 0) = 1280 := wT_of_ne _ ((c1_s _).mp (e2 ▸ hc1))
  have hj : jz (tw c M3 f3 i) = 1#1 ↔ (i 0).val % 4 = 0 := by rw [e3]; exact jz_s _ hs
  have h4 : k0_cond4 (tw c M1 f1 i) (tw c M2 f2 i) = 1#1 ↔ m0T (i 0) < aT (i 0) := by rw [e1, e2]; exact c4_s _
  have h5 : k0_cond5 (tw c M1 f1 i) (tw c M2 f2 i) = 1#1 ↔ m1T (i 0) < aT (i 0) := by rw [e1, e2]; exact c5_s _
  have h6 : k0_cond6 (tw c M3 f3 i) = 1#1 ↔ (i 0).val % 4 = 3 := by rw [e3]; exact c6_s _ hs
  have h7 : k0_cond7 (tw c M1 f1 i) = 1#1 ↔ (aT (i 0)).val % 2 = 0 := by rw [e1]; exact c7_s _
  have h8 : k0_cond8 (tw c M1 f1 i) = 1#1 ↔ (aT (i 0)).val % 2 = 1 := by rw [e1]; exact c8_s _
  have h9 : k0_cond9 (tw c M1 f1 i) = 1#1 ↔ aT (i 0) = 7 := by rw [e1]; exact c9_s _
  have o2 : k0_off2 (tw c M2 f2 i) = ![(m0T (i 0)).val, 0, 0] := by rw [e2]; exact off2_s _
  have o3 : k0_off3 (tw c M2 f2 i) = ![(m1T (i 0)).val, 0, 0] := by rw [e2]; exact off3_s _
  have o4 : k0_off4 (tw c M2 f2 i) = ![(m0T (i 0)).val, 0, 0] := by rw [e2]; exact off4_s _
  have o5 : k0_off5 (tw c M2 f2 i) = ![(m1T (i 0)).val, 0, 0] := by rw [e2]; exact off5_s _
  have o6 : k0_off6 (tw c M1 f1 i) = ![(aT (i 0)).val, 0, 0] := by rw [e1]; exact off6_s _
  have o7 : k0_off7 (tw c M1 f1 i) = ![(aT (i 0)).val, 0, 0] := by rw [e1]; exact off7_s _
  have o8 : k0_off8 (tw c M1 f1 i) = ![(aT (i 0)).val, 0, 0] := by rw [e1]; exact off8_s _
  have o9 : k0_off9 (tw c M1 f1 i) = ![(aT (i 0)).val, 0, 0] := by rw [e1]; exact off9_s _
  have o10 : k0_off10 (tw c M4 f4 i) = ![(oT (i 0)).val, 0, 0] := by rw [e4]; exact off10_s _
  have h78 : ∀ {P : Prop}, (aT (i 0)).val % 2 = 0 → (aT (i 0)).val % 2 = 1 → P := fun h h' => by omega
  refine ⟨fun r f => ?ay, fun r f => ?az, fun b r f hb => ?y1k, fun h r f hr => ?y1n, fun b r f hb => ?zk, fun h r f => ?zn,
    fun h ha r f => ?outn, fun h => ?outk⟩
  case ay =>
    refine (st_all c M14 _ _ _ r f).trans ((pay3_at _ _ _ _ _ r f).trans (congrArg₂ (· + ·) ?_ (congrArg₂ (· + ·) ?_ ?_)))
    · exact (ld_all c M14 _ _ r f).trans (cond_set c M14 hj _ _ (fun _ => k0_pay1) r f 0 fun _ => pay1_at r f)
    · exact Finset.sum_congr rfl fun k _ => congrArg₂ (· * ·) (ld_lo c M7 f7 _ r k) (ld_row c M8 f8 _ _ o2 k f)
    · rw [hw, ← hi7_full]
      exact Finset.sum_congr rfl fun k _ => congrArg₂ (· * ·) (ld_hi c M7 f7 _ r k) (ld_row c M8 f8 _ _ o3 k f)
  case az =>
    refine cond_add c M15 h5 _ _ _ r f _ _ (cond_add c M15 h4 _ _ _ r f _ _ (cond_set c M15 hj _ _ (fun _ => k0_pay2) r f 0 fun _ => pay2_at r f) fun _ => ?_) fun _ => ?_
    · refine (pay4_at _ _ _ r f).trans (congrArg₂ (· + ·) (ld_all c M15 _ _ r f) ?_)
      exact Finset.sum_congr rfl fun k _ => congrArg₂ (· * ·) (ld_lo c M7 f7 _ r k) (ld_row c M12 f12 _ _ o4 k f)
    · refine (pay5_at _ _ _ r f).trans (congrArg₂ (· + ·) (ld_all c M15 _ _ r f) ?_)
      rw [hw, ← hi7_full]
      exact Finset.sum_congr rfl fun k _ => congrArg₂ (· * ·) (ld_hi c M7 f7 _ r k) (ld_row c M12 f12 _ _ o5 k f)
  case y1k => exact cond_row_miss c M12 h6 f12 _ _ o6 _ b r f hb
  case y1n =>
    refine (cond_row_hit c M12 (h6.mpr h) f12 _ _ o6 _ r f).trans ?_
    refine (pay24_at _ _ r f).trans ?_
    refine (pay23_at _ _ r f ?_).trans ?_
    rotate_left
    · unfold run_A.sl.v58; exact (ld_cov c M14 _ _ _ r f).trans (st_all c M14 _ _ _ r f).symm
    exact hr.imp (fun h => by rw [show run_A.sl.r c i M1 f1 = _ from e1]; exact lt7_s _ h) id
  case zk =>
    by_cases h6' : k0_cond6 (tw c M3 f3 i) = 1#1
    · have hb' : b ≠ aT (i 0) := fun h => hb ⟨h6.mp h6', h⟩
      refine (rd_pos c M13 h6' _ _ _).trans ?_
      by_cases h8' : k0_cond8 (tw c M1 f1 i) = 1#1
      · refine (rd_pos c M13 h8' _ _ _).trans ((st_miss c M13 _ _ _ o8 _ b hb' r f).trans ?_)
        exact cond_row_miss c M13 h7 f13 _ _ o7 _ b r f fun h => hb' h.2
      · exact (rd_neg c M13 h8' _ _ _).trans (cond_row_miss c M13 h7 f13 _ _ o7 _ b r f fun h => hb' h.2)
    · exact rd_neg c M13 h6' _ _ _
  case zn =>
    refine (rd_pos c M13 (h6.mpr h) _ _ _).trans ?_
    by_cases h8' : k0_cond8 (tw c M1 f1 i) = 1#1
    · refine (rd_pos c M13 h8' _ _ _).trans ((st_hit c M13 _ _ _ o8 _ r f).trans ((pay6_at _ _ _ r f).trans (congrArg₂ (· + ·) (ld_all c M15 _ _ r f) ?_)))
      rw [if_neg (fun h0 => h78 h0 (h8.mp h8')), hw, ← hi7_full]
      exact Finset.sum_congr rfl fun k _ => congrArg₂ (· * ·) (ld_hi c M7 f7 _ r k)
        ((cond_row_hit c M12 (h6.mpr h) f12 _ _ o6 _ k f).trans (pay24_at _ _ k f)).symm
    · have h0 : (aT (i 0)).val % 2 = 0 := (Nat.mod_two_eq_zero_or_one _).resolve_right fun h => h8' (h8.mpr h)
      refine (rd_neg c M13 h8' _ _ _).trans ((cond_row_hit c M13 (h7.mpr h0) f13 _ _ o7 _ r f).trans ((pay25_at _ _ _ _ r f).trans (congrArg₂ (· + ·) (ld_all c M15 _ _ r f) ?_)))
      rw [if_pos h0]
      exact Finset.sum_congr rfl fun k _ => congrArg₂ (· * ·) (ld_lo c M7 f7 _ r k)
        ((cond_row_hit c M12 (h6.mpr h) f12 _ _ o6 _ k f).trans (pay24_at _ _ k f)).symm
  case outn =>
    refine (rd_pos c M11 (h6.mpr h) _ _ _).trans ((rd_pos c M11 (h9.mpr ha) _ _ _).trans ((st_all c M11 _ _ _ r f).trans ((pay7_at _ _ _ _ _ _ _ r f).trans ?_)))
    unfold proj
    refine congrArg₂ (· + ·) (congrArg₂ (· + ·) (congrArg₂ (· + ·) ?_ ?_) ?_) (ld_b c M10 f10 _ f)
    · exact Finset.sum_congr rfl fun e _ => congrArg₂ (· * ·) (ld_row c M8 f8 _ _ o10 r e) (congrArg₂ (· - ·) (ld_w c M9 f9 0 _ e f) (ld_w c M9 f9 2 _ e f))
    · exact Finset.sum_congr rfl fun e _ => congrArg₂ (· * ·) ((cond_row_hit c M12 (h6.mpr h) f12 _ _ o6 _ r e).trans (pay24_at _ _ r e)).symm (ld_w c M9 f9 1 _ e f)
    · refine Finset.sum_congr rfl fun e _ => congrArg₂ (· * ·) (congrArg (Ideal.ofBits .f32 0x40000000#32 * ·) ?_) (ld_w c M9 f9 2 _ e f)
      beta_reduce
      symm
      refine (rd_pos c M13 (h6.mpr h) _ _ _).trans ?_
      exact (ld_row c M13 _ _ _ o9 r e).symm
  case outk =>
    funext j
    by_cases h6' : k0_cond6 (tw c M3 f3 i) = 1#1
    · exact (rd_pos c M11 h6' _ _ _).trans (rd_neg c M11 (fun h9' => h ⟨h6.mp h6', h9.mp h9'⟩) _ _ _)
    · exact rd_neg c M11 h6' _ _ _

end Cert.KernelIdeal.Hand
end
-- ==== Proof.RunAEdge.lean ====
module

public import proofs.«01_k».proof.Proof.Steps
public import proofs.«01_k».proof.Proof.BodyRuns

@[expose] public section

set_option maxRecDepth 16384

noncomputable section

namespace Cert.KernelIdeal.Hand

open Idealize.ShloMosaic Idealize.ShloMosaic.TcCoe Idealize.ShloMosaic.Pipeline
open Idealize.SL Idealize.SL.RA Idealize.SL.BI Idealize.SL.Sem
open scoped Idealize.SL.BI
open Idealize.SL.BI.BIBase
open Cert.KernelIdeal Cert.KernelIdeal.Gen

local notation "𝕄" => MT nD τ sig Unit (Elt Ideal) ℕ (UR sig nD τ) ℕ

variable (c : Dev nD) (i : grid0.Coords) (E : Set ℕ) (q : PosShare TreeShare)
  (M1 : Memref sig .tc .smem S48 .i32) (h1 : M1.IsWhole)
  (M2 : Memref sig .tc .smem S48 .i32) (h2 : M2.IsWhole)
  (M3 : Memref sig .tc .smem S48 .i32) (h3 : M3.IsWhole)
  (M4 : Memref sig .tc .smem S48 .i32) (h4 : M4.IsWhole)
  (M5 : Memref sig .tc .smem S48 .i32) (h5 : M5.IsWhole)
  (M6 : Memref sig .tc .smem S48 .i32) (h6 : M6.IsWhole)
  (M7 : Memref sig .tc .vmem S1280x2560 .f32) (h7 : M7.IsWhole)
  (M8 : Memref sig .tc .vmem S8x1280x128 .f32) (h8 : M8.IsWhole)
  (M9 : Memref sig .tc .vmem S3x128x128 .f32) (h9 : M9.IsWhole)
  (M10 : Memref sig .tc .vmem S1x128 .f32) (h10 : M10.IsWhole)
  (M11 : Memref sig .tc .vmem S1280x128 .f32) (h11 : M11.IsWhole)
  (M12 : Memref sig .tc .vmem S8x1280x128 .f32) (h12 : M12.IsWhole)
  (M13 : Memref sig .tc .vmem S8x1280x128 .f32) (h13 : M13.IsWhole)
  (M14 : Memref sig .tc .vmem S1280x128 .f32) (h14 : M14.IsWhole)
  (M15 : Memref sig .tc .vmem S1280x128 .f32) (h15 : M15.IsWhole)
  (M16 : Memref sig .tc .vmem S1280x128 .f32) (h16 : M16.IsWhole)
  (f1 : Buf (Elt Ideal) (M1.view.loc (c : Thread nD τ)))
  (f2 : Buf (Elt Ideal) (M2.view.loc (c : Thread nD τ)))
  (f3 : Buf (Elt Ideal) (M3.view.loc (c : Thread nD τ)))
  (f4 : Buf (Elt Ideal) (M4.view.loc (c : Thread nD τ)))
  (f5 : Buf (Elt Ideal) (M5.view.loc (c : Thread nD τ)))
  (f6 : Buf (Elt Ideal) (M6.view.loc (c : Thread nD τ)))
  (f7 : Buf (Elt Ideal) (M7.view.loc (c : Thread nD τ)))
  (f8 : Buf (Elt Ideal) (M8.view.loc (c : Thread nD τ)))
  (f9 : Buf (Elt Ideal) (M9.view.loc (c : Thread nD τ)))
  (f10 : Buf (Elt Ideal) (M10.view.loc (c : Thread nD τ)))
  (f11 : Buf (Elt Ideal) (M11.view.loc (c : Thread nD τ)))
  (f12 : Buf (Elt Ideal) (M12.view.loc (c : Thread nD τ)))
  (f13 : Buf (Elt Ideal) (M13.view.loc (c : Thread nD τ)))
  (f14 : Buf (Elt Ideal) (M14.view.loc (c : Thread nD τ)))
  (f15 : Buf (Elt Ideal) (M15.view.loc (c : Thread nD τ)))
  (f16 : Buf (Elt Ideal) (M16.view.loc (c : Thread nD τ)))

set_option maxHeartbeats 400000 in
/-- A point of the first sweep at the chunk that meets the array's end does what `StepA` says. -/
theorem run_A_edge
    (e1 : tw c M1 f1 i = lit0 (i 0)) (e2 : tw c M2 f2 i = lit1 (i 0)) (e3 : tw c M3 f3 i = lit2 (i 0)) (e4 : tw c M4 f4 i = lit3 (i 0))
    (e5 : tw c M5 f5 i = lit4 (i 0)) (e6 : tw c M6 f6 i = lit5 (i 0))
    (hc1 : ¬ k0_cond1 (tw c M2 f2 i) = 1#1) (hc15 : k0_cond15 (tw c M2 f2 i) = 1#1) (hc16 : k0_cond16 i = 1#1) (hc24 : ¬ k0_cond24 i = 1#1)
    (K : PUnit → sProp 𝕄) :
    iprop(Held c q M1 M2 M3 M4 M5 M6 M7 M8 M9 M10 M11 M12 M13 M14 M15 M16 f1 f2 f3 f4 f5 f6 f7 f8 f9 f10 f11 f12 f13 f14 f15 f16
      ∗ (∀ (g11 : Buf (Elt Ideal) (M11.view.loc (c : Thread nD τ))) (g12 : Buf (Elt Ideal) (M12.view.loc (c : Thread nD τ))) (g13 : Buf (Elt Ideal) (M13.view.loc (c : Thread nD τ))) (g14 : Buf (Elt Ideal) (M14.view.loc (c : Thread nD τ))) (g15 : Buf (Elt Ideal) (M15.view.loc (c : Thread nD τ))) (g16 : Buf (Elt Ideal) (M16.view.loc (c : Thread nD τ))),
          (Held c q M1 M2 M3 M4 M5 M6 M7 M8 M9 M10 M11 M12 M13 M14 M15 M16 f1 f2 f3 f4 f5 f6 f7 f8 f9 f10 g11 g12 g13 g14 g15 g16
            ∗ ⌜StepA (i 0) (M7.view.read (Elt Ideal) f7) (M8.view.read (Elt Ideal) f8) (M9.view.read (Elt Ideal) f9) (M10.view.read (Elt Ideal) f10) (M11.view.read (Elt Ideal) f11)
                (M12.view.read (Elt Ideal) f12) (M13.view.read (Elt Ideal) f13) (M14.view.read (Elt Ideal) f14) (M15.view.read (Elt Ideal) f15)
                (M11.view.read (Elt Ideal) g11) (M12.view.read (Elt Ideal) g12) (M13.view.read (Elt Ideal) g13) (M14.view.read (Elt Ideal) g14) (M15.view.read (Elt Ideal) g15)⌝) -∗ K ⟨⟩))
      ⊢ wp frame (wpE (defs₀ (F := Ideal)) 𝒱₀ c none) E
          (cc0__body i M1 h1 M2 h2 M3 h3 M4 h4 M5 h5 M6 h6 M7 h7 M8 h8 M9 h9 M10 h10 M11 h11 M12 h12 M13 h13 M14 h14 M15 h15 M16 h16) K := by
  have k1 : k0_chk1 i (tw c M1 f1 i) (tw c M2 f2 i) := by rw [e1, e2]; exact chk1_lit _
  have k2 : k0_chk2 i (tw c M1 f1 i) (tw c M2 f2 i) (tw c M3 f3 i) := by rw [e1, e2, e3]; exact chk2_lit _
  have k3 : k0_chk3 i (tw c M1 f1 i) (tw c M2 f2 i) (tw c M3 f3 i) (tw c M4 f4 i) := by rw [e1, e2, e3, e4]; exact chk3_lit _
  have k5 : k0_chk5 i (tw c M2 f2 i) (tw c M4 f4 i) (tw c M5 f5 i) := by rw [e2, e4, e5]; exact chk5_lit _
  have k4 : k0_chk4 i (tw c M2 f2 i) (tw c M4 f4 i) (tw c M6 f6 i) := by rw [e2, e4, e6]; exact chk4_lit _
  simp only [cc0__body_eq_skeleton]; unfold cc0__body_skel Held
  iintro ⟨⟨H1, H2, H3, H4, H5, H6, H7, H8, H9, H10, H11, H12, H13, H14, H15, H16⟩, Hk⟩
  sl_exec
  sl_step
  iapply Hk
  isplitl [H1 H2 H3 H4 H5 H6 H7 H8 H9 H10 H11 H12 H13 H14 H15 H16]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  ipureintro
  have hs : (i 0).val < 32 := (c16_s i).mp hc16
  have hw : wT (i 0) = 1040 := wT_of_eq _ ((c15_s _).mp (e2 ▸ hc15))
  have hj : jz (tw c M3 f3 i) = 1#1 ↔ (i 0).val % 4 = 0 := by rw [e3]; exact jz_s _ hs
  have h4 : k0_cond18 (tw c M1 f1 i) (tw c M2 f2 i) = 1#1 ↔ m0T (i 0) < aT (i 0) := by rw [e1, e2]; exact c18_s _
  have h5 : k0_cond19 (tw c M1 f1 i) (tw c M2 f2 i) = 1#1 ↔ m1T (i 0) < aT (i 0) := by rw [e1, e2]; exact c19_s _
  have h6 : k0_cond20 (tw c M3 f3 i) = 1#1 ↔ (i 0).val % 4 = 3 := by rw [e3]; exact c20_s _ hs
  have h7 : k0_cond21 (tw c M1 f1 i) = 1#1 ↔ (aT (i 0)).val % 2 = 0 := by rw [e1]; exact c21_s _
  have h8 : k0_cond22 (tw c M1 f1 i) = 1#1 ↔ (aT (i 0)).val % 2 = 1 := by rw [e1]; exact c22_s _
  have h9 : k0_cond23 (tw c M1 f1 i) = 1#1 ↔ aT (i 0) = 7 := by rw [e1]; exact c23_s _
  have o2 : k0_off15 (tw c M2 f2 i) = ![(m0T (i 0)).val, 0, 0] := by rw [e2]; exact off15_s _
  have o3 : k0_off16 (tw c M2 f2 i) = ![(m1T (i 0)).val, 0, 0] := by rw [e2]; exact off16_s _
  have o4 : k0_off17 (tw c M2 f2 i) = ![(m0T (i 0)).val, 0, 0] := by rw [e2]; exact off17_s _
  have o5 : k0_off18 (tw c M2 f2 i) = ![(m1T (i 0)).val, 0, 0] := by rw [e2]; exact off18_s _
  have o6 : k0_off19 (tw c M1 f1 i) = ![(aT (i 0)).val, 0, 0] := by rw [e1]; exact off19_s _
  have o7 : k0_off20 (tw c M1 f1 i) = ![(aT (i 0)).val, 0, 0] := by rw [e1]; exact off20_s _
  have o8 : k0_off21 (tw c M1 f1 i) = ![(aT (i 0)).val, 0, 0] := by rw [e1]; exact off21_s _
  have o9 : k0_off22 (tw c M1 f1 i) = ![(aT (i 0)).val, 0, 0] := by rw [e1]; exact off22_s _
  have o10 : k0_off23 (tw c M4 f4 i) = ![(oT (i 0)).val, 0, 0] := by rw [e4]; exact off23_s _
  have h78 : ∀ {P : Prop}, (aT (i 0)).val % 2 = 0 → (aT (i 0)).val % 2 = 1 → P := fun h h' => by omega
  refine ⟨fun r f => ?ay, fun r f => ?az, fun b r f hb => ?y1k, fun h r f hr => ?y1n, fun b r f hb => ?zk, fun h r f => ?zn,
    fun h ha r f => ?outn, fun h => ?outk⟩
  case ay =>
    refine (st_all c M14 _ _ _ r f).trans ((pay14_at _ _ _ _ _ r f).trans (congrArg₂ (· + ·) ?_ (congrArg₂ (· + ·) ?_ ?_)))
    · exact (ld_all c M14 _ _ r f).trans (cond_set c M14 hj _ _ (fun _ => k0_pay12) r f 0 fun _ => pay12_at r f)
    · exact Finset.sum_congr rfl fun k _ => congrArg₂ (· * ·) (ld_lo c M7 f7 _ r k) (ld_row c M8 f8 _ _ o2 k f)
    · rw [hw, ← hi7_cut]
      exact Finset.sum_congr rfl fun k _ => congrArg₂ (· * ·) (ld_hi' c M7 f7 _ r k) (ld_row' c M8 f8 _ _ o3 k f)
  case az =>
    refine cond_add c M15 h5 _ _ _ r f _ _ (cond_add c M15 h4 _ _ _ r f _ _ (cond_set c M15 hj _ _ (fun _ => k0_pay13) r f 0 fun _ => pay13_at r f) fun _ => ?_) fun _ => ?_
    · refine (pay15_at _ _ _ r f).trans (congrArg₂ (· + ·) (ld_all c M15 _ _ r f) ?_)
      exact Finset.sum_congr rfl fun k _ => congrArg₂ (· * ·) (ld_lo c M7 f7 _ r k) (ld_row c M12 f12 _ _ o4 k f)
    · refine (pay16_at _ _ _ r f).trans (congrArg₂ (· + ·) (ld_all c M15 _ _ r f) ?_)
      rw [hw, ← hi7_cut]
      exact Finset.sum_congr rfl fun k _ => congrArg₂ (· * ·) (ld_hi' c M7 f7 _ r k) (ld_row' c M12 f12 _ _ o5 k f)
  case y1k => exact cond_row_miss c M12 h6 f12 _ _ o6 _ b r f hb
  case y1n =>
    refine (cond_row_hit c M12 (h6.mpr h) f12 _ _ o6 _ r f).trans ?_
    refine (pay27_at _ _ r f).trans ?_
    refine (pay26_at _ _ r f ?_).trans ?_
    rotate_left
    · unfold run_A_edge.sl.v58; exact (ld_cov c M14 _ _ _ r f).trans (st_all c M14 _ _ _ r f).symm
    exact hr.imp (fun h => by rw [show run_A_edge.sl.r c i M1 f1 = _ from e1]; exact lt7_s _ h) id
  case zk =>
    by_cases h6' : k0_cond20 (tw c M3 f3 i) = 1#1
    · have hb' : b ≠ aT (i 0) := fun h => hb ⟨h6.mp h6', h⟩
      refine (rd_pos c M13 h6' _ _ _).trans ?_
      by_cases h8' : k0_cond22 (tw c M1 f1 i) = 1#1
      · refine (rd_pos c M13 h8' _ _ _).trans ((st_miss c M13 _ _ _ o8 _ b hb' r f).trans ?_)
        exact cond_row_miss c M13 h7 f13 _ _ o7 _ b r f fun h => hb' h.2
      · exact (rd_neg c M13 h8' _ _ _).trans (cond_row_miss c M13 h7 f13 _ _ o7 _ b r f fun h => hb' h.2)
    · exact rd_neg c M13 h6' _ _ _
  case zn =>
    refine (rd_pos c M13 (h6.mpr h) _ _ _).trans ?_
    by_cases h8' : k0_cond22 (tw c M1 f1 i) = 1#1
    · refine (rd_pos c M13 h8' _ _ _).trans ((st_hit c M13 _ _ _ o8 _ r f).trans ((pay17_at _ _ _ r f).trans (congrArg₂ (· + ·) (ld_all c M15 _ _ r f) ?_)))
      rw [if_neg (fun h0 => h78 h0 (h8.mp h8')), hw, ← hi7_cut]
      exact Finset.sum_congr rfl fun k _ => congrArg₂ (· * ·) (ld_hi' c M7 f7 _ r k)
        ((cond_row_hit c M12 (h6.mpr h) f12 _ _ o6 _ (⟨k.val, by omega⟩ : Fin 1280) f).trans (pay27_at _ _ _ f)).symm
    · have h0 : (aT (i 0)).val % 2 = 0 := (Nat.mod_two_eq_zero_or_one _).resolve_right fun h => h8' (h8.mpr h)
      refine (rd_neg c M13 h8' _ _ _).trans ((cond_row_hit c M13 (h7.mpr h0) f13 _ _ o7 _ r f).trans ((pay28_at _ _ _ _ r f).trans (congrArg₂ (· + ·) (ld_all c M15 _ _ r f) ?_)))
      rw [if_pos h0]
      exact Finset.sum_congr rfl fun k _ => congrArg₂ (· * ·) (ld_lo c M7 f7 _ r k)
        ((cond_row_hit c M12 (h6.mpr h) f12 _ _ o6 _ k f).trans (pay27_at _ _ k f)).symm
  case outn =>
    refine (rd_pos c M11 (h6.mpr h) _ _ _).trans ((rd_pos c M11 (h9.mpr ha) _ _ _).trans ((st_all c M11 _ _ _ r f).trans ((pay18_at _ _ _ _ _ _ _ r f).trans ?_)))
    unfold proj
    refine congrArg₂ (· + ·) (congrArg₂ (· + ·) (congrArg₂ (· + ·) ?_ ?_) ?_) (ld_b c M10 f10 _ f)
    · exact Finset.sum_congr rfl fun e _ => congrArg₂ (· * ·) (ld_row c M8 f8 _ _ o10 r e) (congrArg₂ (· - ·) (ld_w c M9 f9 0 _ e f) (ld_w c M9 f9 2 _ e f))
    · exact Finset.sum_congr rfl fun e _ => congrArg₂ (· * ·) ((cond_row_hit c M12 (h6.mpr h) f12 _ _ o6 _ r e).trans (pay27_at _ _ r e)).symm (ld_w c M9 f9 1 _ e f)
    · refine Finset.sum_congr rfl fun e _ => congrArg₂ (· * ·) (congrArg (Ideal.ofBits .f32 0x40000000#32 * ·) ?_) (ld_w c M9 f9 2 _ e f)
      beta_reduce
      symm
      refine (rd_pos c M13 (h6.mpr h) _ _ _).trans ?_
      exact (ld_row c M13 _ _ _ o9 r e).symm
  case outk =>
    funext j
    by_cases h6' : k0_cond20 (tw c M3 f3 i) = 1#1
    · exact (rd_pos c M11 h6' _ _ _).trans (rd_neg c M11 (fun h9' => h ⟨h6.mp h6', h9.mp h9'⟩) _ _ _)
    · exact rd_neg c M11 h6' _ _ _

end Cert.KernelIdeal.Hand
end
-- ==== Proof.RunB.lean ====
module

public import proofs.«01_k».proof.Proof.Steps
public import proofs.«01_k».proof.Proof.BodyRuns

@[expose] public section

set_option maxRecDepth 16384

noncomputable section

namespace Cert.KernelIdeal.Hand

open Idealize.ShloMosaic Idealize.ShloMosaic.TcCoe Idealize.ShloMosaic.Pipeline
open Idealize.SL Idealize.SL.RA Idealize.SL.BI Idealize.SL.Sem
open scoped Idealize.SL.BI
open Idealize.SL.BI.BIBase
open Cert.KernelIdeal Cert.KernelIdeal.Gen

local notation "𝕄" => MT nD τ sig Unit (Elt Ideal) ℕ (UR sig nD τ) ℕ

variable (c : Dev nD) (i : grid0.Coords) (E : Set ℕ) (q : PosShare TreeShare)
  (M1 : Memref sig .tc .smem S48 .i32) (h1 : M1.IsWhole)
  (M2 : Memref sig .tc .smem S48 .i32) (h2 : M2.IsWhole)
  (M3 : Memref sig .tc .smem S48 .i32) (h3 : M3.IsWhole)
  (M4 : Memref sig .tc .smem S48 .i32) (h4 : M4.IsWhole)
  (M5 : Memref sig .tc .smem S48 .i32) (h5 : M5.IsWhole)
  (M6 : Memref sig .tc .smem S48 .i32) (h6 : M6.IsWhole)
  (M7 : Memref sig .tc .vmem S1280x2560 .f32) (h7 : M7.IsWhole)
  (M8 : Memref sig .tc .vmem S8x1280x128 .f32) (h8 : M8.IsWhole)
  (M9 : Memref sig .tc .vmem S3x128x128 .f32) (h9 : M9.IsWhole)
  (M10 : Memref sig .tc .vmem S1x128 .f32) (h10 : M10.IsWhole)
  (M11 : Memref sig .tc .vmem S1280x128 .f32) (h11 : M11.IsWhole)
  (M12 : Memref sig .tc .vmem S8x1280x128 .f32) (h12 : M12.IsWhole)
  (M13 : Memref sig .tc .vmem S8x1280x128 .f32) (h13 : M13.IsWhole)
  (M14 : Memref sig .tc .vmem S1280x128 .f32) (h14 : M14.IsWhole)
  (M15 : Memref sig .tc .vmem S1280x128 .f32) (h15 : M15.IsWhole)
  (M16 : Memref sig .tc .vmem S1280x128 .f32) (h16 : M16.IsWhole)
  (f1 : Buf (Elt Ideal) (M1.view.loc (c : Thread nD τ)))
  (f2 : Buf (Elt Ideal) (M2.view.loc (c : Thread nD τ)))
  (f3 : Buf (Elt Ideal) (M3.view.loc (c : Thread nD τ)))
  (f4 : Buf (Elt Ideal) (M4.view.loc (c : Thread nD τ)))
  (f5 : Buf (Elt Ideal) (M5.view.loc (c : Thread nD τ)))
  (f6 : Buf (Elt Ideal) (M6.view.loc (c : Thread nD τ)))
  (f7 : Buf (Elt Ideal) (M7.view.loc (c : Thread nD τ)))
  (f8 : Buf (Elt Ideal) (M8.view.loc (c : Thread nD τ)))
  (f9 : Buf (Elt Ideal) (M9.view.loc (c : Thread nD τ)))
  (f10 : Buf (Elt Ideal) (M10.view.loc (c : Thread nD τ)))
  (f11 : Buf (Elt Ideal) (M11.view.loc (c : Thread nD τ)))
  (f12 : Buf (Elt Ideal) (M12.view.loc (c : Thread nD τ)))
  (f13 : Buf (Elt Ideal) (M13.view.loc (c : Thread nD τ)))
  (f14 : Buf (Elt Ideal) (M14.view.loc (c : Thread nD τ)))
  (f15 : Buf (Elt Ideal) (M15.view.loc (c : Thread nD τ)))
  (f16 : Buf (Elt Ideal) (M16.view.loc (c : Thread nD τ)))

set_option maxHeartbeats 2000000 in
/-- A point of the second sweep at a chunk inside the array does what `StepB` says. -/
theorem run_B
    (e1 : tw c M1 f1 i = lit0 (i 0)) (e2 : tw c M2 f2 i = lit1 (i 0)) (e3 : tw c M3 f3 i = lit2 (i 0)) (e4 : tw c M4 f4 i = lit3 (i 0))
    (e5 : tw c M5 f5 i = lit4 (i 0)) (e6 : tw c M6 f6 i = lit5 (i 0))
    (hc1 : k0_cond1 (tw c M2 f2 i) = 1#1) (hc2 : ¬ k0_cond2 i = 1#1) (hc10 : k0_cond10 i = 1#1) (hc15 : ¬ k0_cond15 (tw c M2 f2 i) = 1#1)
    (K : PUnit → sProp 𝕄) :
    iprop(Held c q M1 M2 M3 M4 M5 M6 M7 M8 M9 M10 M11 M12 M13 M14 M15 M16 f1 f2 f3 f4 f5 f6 f7 f8 f9 f10 f11 f12 f13 f14 f15 f16
      ∗ (∀ (g11 : Buf (Elt Ideal) (M11.view.loc (c : Thread nD τ))) (g12 : Buf (Elt Ideal) (M12.view.loc (c : Thread nD τ))) (g13 : Buf (Elt Ideal) (M13.view.loc (c : Thread nD τ))) (g14 : Buf (Elt Ideal) (M14.view.loc (c : Thread nD τ))) (g15 : Buf (Elt Ideal) (M15.view.loc (c : Thread nD τ))) (g16 : Buf (Elt Ideal) (M16.view.loc (c : Thread nD τ))),
          (Held c q M1 M2 M3 M4 M5 M6 M7 M8 M9 M10 M11 M12 M13 M14 M15 M16 f1 f2 f3 f4 f5 f6 f7 f8 f9 f10 g11 g12 g13 g14 g15 g16
            ∗ ⌜StepB (i 0) (M7.view.read (Elt Ideal) f7) (M8.view.read (Elt Ideal) f8) (M9.view.read (Elt Ideal) f9) (M10.view.read (Elt Ideal) f10) (M11.view.read (Elt Ideal) f11)
                (M12.view.read (Elt Ideal) f12) (M13.view.read (Elt Ideal) f13) (M16.view.read (Elt Ideal) f16)
                (M11.view.read (Elt Ideal) g11) (M12.view.read (Elt Ideal) g12) (M13.view.read (Elt Ideal) g13) (M16.view.read (Elt Ideal) g16)⌝) -∗ K ⟨⟩))
      ⊢ wp frame (wpE (defs₀ (F := Ideal)) 𝒱₀ c none) E
          (cc0__body i M1 h1 M2 h2 M3 h3 M4 h4 M5 h5 M6 h6 M7 h7 M8 h8 M9 h9 M10 h10 M11 h11 M12 h12 M13 h13 M14 h14 M15 h15 M16 h16) K := by
  have k1 : k0_chk1 i (tw c M1 f1 i) (tw c M2 f2 i) := by rw [e1, e2]; exact chk1_lit _
  have k2 : k0_chk2 i (tw c M1 f1 i) (tw c M2 f2 i) (tw c M3 f3 i) := by rw [e1, e2, e3]; exact chk2_lit _
  have k3 : k0_chk3 i (tw c M1 f1 i) (tw c M2 f2 i) (tw c M3 f3 i) (tw c M4 f4 i) := by rw [e1, e2, e3, e4]; exact chk3_lit _
  have k5 : k0_chk5 i (tw c M2 f2 i) (tw c M4 f4 i) (tw c M5 f5 i) := by rw [e2, e4, e5]; exact chk5_lit _
  have k4 : k0_chk4 i (tw c M2 f2 i) (tw c M4 f4 i) (tw c M6 f6 i) := by rw [e2, e4, e6]; exact chk4_lit _
  simp only [cc0__body_eq_skeleton]; unfold cc0__body_skel Held
  iintro ⟨⟨H1, H2, H3, H4, H5, H6, H7, H8, H9, H10, H11, H12, H13, H14, H15, H16⟩, Hk⟩
  sl_exec
  sl_step
  iapply Hk
  isplitl [H1 H2 H3 H4 H5 H6 H7 H8 H9 H10 H11 H12 H13 H14 H15 H16]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  ipureintro
  have hw : wT (i 0) = 1280 := wT_of_ne _ ((c1_s _).mp (e2 ▸ hc1))
  have h11 : k0_cond11 (tw c M6 f6 i) = 1#1 ↔ lit5 (i 0) = 1#32 := by rw [e6]; exact c11_s _
  have h12 : k0_cond12 (tw c M1 f1 i) (tw c M2 f2 i) = 1#1 ↔ aT (i 0) < m0T (i 0) := by rw [e1, e2]; exact c12_s _
  have h13 : k0_cond13 (tw c M1 f1 i) (tw c M2 f2 i) = 1#1 ↔ aT (i 0) < m1T (i 0) := by rw [e1, e2]; exact c13_s _
  have h14 : k0_cond14 (tw c M5 f5 i) = 1#1 ↔ lit4 (i 0) = 1#32 := by rw [e5]; exact c14_s _
  have o11 : k0_off11 (tw c M4 f4 i) = ![(oT (i 0)).val, 0, 0] := by rw [e4]; exact off11_s _
  have o12 : k0_off12 (tw c M2 f2 i) = ![(m0T (i 0)).val, 0, 0] := by rw [e2]; exact off12_s _
  have o13 : k0_off13 (tw c M2 f2 i) = ![(m1T (i 0)).val, 0, 0] := by rw [e2]; exact off13_s _
  have o14 : k0_off14 (tw c M4 f4 i) = ![(oT (i 0)).val, 0, 0] := by rw [e4]; exact off14_s _
  refine ⟨fun r f => ?acc, rfl, rfl, fun h r f => ?outn, fun h => ?outk⟩
  case acc =>
    refine cond_add c M16 h13 _ _ _ r f _ _ (cond_add c M16 h12 _ _ _ r f _ _ (cond_set c M16 h11 _ _ (fun _ => k0_pay8 _) r f _ fun _ => (pay8_at _ r f).trans (ld_row c M13 f13 _ _ o11 r f)) fun _ => ?_) fun _ => ?_
    · refine (pay9_at _ _ _ r f).trans (congrArg₂ (· + ·) (ld_all c M16 _ _ r f) ?_)
      exact Finset.sum_congr rfl fun k _ => congrArg₂ (· * ·) (ld_lo c M7 f7 _ r k) (ld_row c M12 f12 _ _ o12 k f)
    · refine (pay10_at _ _ _ r f).trans (congrArg₂ (· + ·) (ld_all c M16 _ _ r f) ?_)
      rw [hw, ← hi7_full]
      exact Finset.sum_congr rfl fun k _ => congrArg₂ (· * ·) (ld_hi c M7 f7 _ r k) (ld_row c M12 f12 _ _ o13 k f)
  case outn =>
    refine (rd_pos c M11 (h14.mpr h) _ _ _).trans ((st_all c M11 _ _ _ r f).trans ((pay11_at _ _ _ _ _ _ _ r f).trans ?_))
    unfold proj
    refine congrArg₂ (· + ·) (congrArg₂ (· + ·) (congrArg₂ (· + ·) ?_ ?_) ?_) (ld_b c M10 f10 _ f)
    · exact Finset.sum_congr rfl fun e _ => congrArg₂ (· * ·) (ld_row c M8 f8 _ _ o14 r e) (congrArg₂ (· - ·) (ld_w c M9 f9 0 _ e f) (ld_w c M9 f9 2 _ e f))
    · exact Finset.sum_congr rfl fun e _ => congrArg₂ (· * ·) (ld_row c M12 f12 _ _ o14 r e) (ld_w c M9 f9 1 _ e f)
    · exact Finset.sum_congr rfl fun e _ => congrArg₂ (· * ·) (congrArg (Ideal.ofBits .f32 0x40000000#32 * ·) (ld_all c M16 _ _ r e)) (ld_w c M9 f9 2 _ e f)
  case outk =>
    funext j
    exact rd_neg c M11 (fun h' => h (h14.mp h')) _ _ _

end Cert.KernelIdeal.Hand
end
-- ==== Proof.RunBEdge.lean ====
module

public import proofs.«01_k».proof.Proof.Steps
public import proofs.«01_k».proof.Proof.BodyRuns

@[expose] public section

set_option maxRecDepth 16384

noncomputable section

namespace Cert.KernelIdeal.Hand

open Idealize.ShloMosaic Idealize.ShloMosaic.TcCoe Idealize.ShloMosaic.Pipeline
open Idealize.SL Idealize.SL.RA Idealize.SL.BI Idealize.SL.Sem
open scoped Idealize.SL.BI
open Idealize.SL.BI.BIBase
open Cert.KernelIdeal Cert.KernelIdeal.Gen

local notation "𝕄" => MT nD τ sig Unit (Elt Ideal) ℕ (UR sig nD τ) ℕ

variable (c : Dev nD) (i : grid0.Coords) (E : Set ℕ) (q : PosShare TreeShare)
  (M1 : Memref sig .tc .smem S48 .i32) (h1 : M1.IsWhole)
  (M2 : Memref sig .tc .smem S48 .i32) (h2 : M2.IsWhole)
  (M3 : Memref sig .tc .smem S48 .i32) (h3 : M3.IsWhole)
  (M4 : Memref sig .tc .smem S48 .i32) (h4 : M4.IsWhole)
  (M5 : Memref sig .tc .smem S48 .i32) (h5 : M5.IsWhole)
  (M6 : Memref sig .tc .smem S48 .i32) (h6 : M6.IsWhole)
  (M7 : Memref sig .tc .vmem S1280x2560 .f32) (h7 : M7.IsWhole)
  (M8 : Memref sig .tc .vmem S8x1280x128 .f32) (h8 : M8.IsWhole)
  (M9 : Memref sig .tc .vmem S3x128x128 .f32) (h9 : M9.IsWhole)
  (M10 : Memref sig .tc .vmem S1x128 .f32) (h10 : M10.IsWhole)
  (M11 : Memref sig .tc .vmem S1280x128 .f32) (h11 : M11.IsWhole)
  (M12 : Memref sig .tc .vmem S8x1280x128 .f32) (h12 : M12.IsWhole)
  (M13 : Memref sig .tc .vmem S8x1280x128 .f32) (h13 : M13.IsWhole)
  (M14 : Memref sig .tc .vmem S1280x128 .f32) (h14 : M14.IsWhole)
  (M15 : Memref sig .tc .vmem S1280x128 .f32) (h15 : M15.IsWhole)
  (M16 : Memref sig .tc .vmem S1280x128 .f32) (h16 : M16.IsWhole)
  (f1 : Buf (Elt Ideal) (M1.view.loc (c : Thread nD τ)))
  (f2 : Buf (Elt Ideal) (M2.view.loc (c : Thread nD τ)))
  (f3 : Buf (Elt Ideal) (M3.view.loc (c : Thread nD τ)))
  (f4 : Buf (Elt Ideal) (M4.view.loc (c : Thread nD τ)))
  (f5 : Buf (Elt Ideal) (M5.view.loc (c : Thread nD τ)))
  (f6 : Buf (Elt Ideal) (M6.view.loc (c : Thread nD τ)))
  (f7 : Buf (Elt Ideal) (M7.view.loc (c : Thread nD τ)))
  (f8 : Buf (Elt Ideal) (M8.view.loc (c : Thread nD τ)))
  (f9 : Buf (Elt Ideal) (M9.view.loc (c : Thread nD τ)))
  (f10 : Buf (Elt Ideal) (M10.view.loc (c : Thread nD τ)))
  (f11 : Buf (Elt Ideal) (M11.view.loc (c : Thread nD τ)))
  (f12 : Buf (Elt Ideal) (M12.view.loc (c : Thread nD τ)))
  (f13 : Buf (Elt Ideal) (M13.view.loc (c : Thread nD τ)))
  (f14 : Buf (Elt Ideal) (M14.view.loc (c : Thread nD τ)))
  (f15 : Buf (Elt Ideal) (M15.view.loc (c : Thread nD τ)))
  (f16 : Buf (Elt Ideal) (M16.view.loc (c : Thread nD τ)))

set_option maxHeartbeats 2000000 in
/-- A point of the second sweep at the chunk that meets the array's end does what `StepB` says. -/
theorem run_B_edge
    (e1 : tw c M1 f1 i = lit0 (i 0)) (e2 : tw c M2 f2 i = lit1 (i 0)) (e3 : tw c M3 f3 i = lit2 (i 0)) (e4 : tw c M4 f4 i = lit3 (i 0))
    (e5 : tw c M5 f5 i = lit4 (i 0)) (e6 : tw c M6 f6 i = lit5 (i 0))
    (hc1 : ¬ k0_cond1 (tw c M2 f2 i) = 1#1) (hc15 : k0_cond15 (tw c M2 f2 i) = 1#1) (hc16 : ¬ k0_cond16 i = 1#1) (hc24 : k0_cond24 i = 1#1)
    (K : PUnit → sProp 𝕄) :
    iprop(Held c q M1 M2 M3 M4 M5 M6 M7 M8 M9 M10 M11 M12 M13 M14 M15 M16 f1 f2 f3 f4 f5 f6 f7 f8 f9 f10 f11 f12 f13 f14 f15 f16
      ∗ (∀ (g11 : Buf (Elt Ideal) (M11.view.loc (c : Thread nD τ))) (g12 : Buf (Elt Ideal) (M12.view.loc (c : Thread nD τ))) (g13 : Buf (Elt Ideal) (M13.view.loc (c : Thread nD τ))) (g14 : Buf (Elt Ideal) (M14.view.loc (c : Thread nD τ))) (g15 : Buf (Elt Ideal) (M15.view.loc (c : Thread nD τ))) (g16 : Buf (Elt Ideal) (M16.view.loc (c : Thread nD τ))),
          (Held c q M1 M2 M3 M4 M5 M6 M7 M8 M9 M10 M11 M12 M13 M14 M15 M16 f1 f2 f3 f4 f5 f6 f7 f8 f9 f10 g11 g12 g13 g14 g15 g16
            ∗ ⌜StepB (i 0) (M7.view.read (Elt Ideal) f7) (M8.view.read (Elt Ideal) f8) (M9.view.read (Elt Ideal) f9) (M10.view.read (Elt Ideal) f10) (M11.view.read (Elt Ideal) f11)
                (M12.view.read (Elt Ideal) f12) (M13.view.read (Elt Ideal) f13) (M16.view.read (Elt Ideal) f16)
                (M11.view.read (Elt Ideal) g11) (M12.view.read (Elt Ideal) g12) (M13.view.read (Elt Ideal) g13) (M16.view.read (Elt Ideal) g16)⌝) -∗ K ⟨⟩))
      ⊢ wp frame (wpE (defs₀ (F := Ideal)) 𝒱₀ c none) E
          (cc0__body i M1 h1 M2 h2 M3 h3 M4 h4 M5 h5 M6 h6 M7 h7 M8 h8 M9 h9 M10 h10 M11 h11 M12 h12 M13 h13 M14 h14 M15 h15 M16 h16) K := by
  have k1 : k0_chk1 i (tw c M1 f1 i) (tw c M2 f2 i) := by rw [e1, e2]; exact chk1_lit _
  have k2 : k0_chk2 i (tw c M1 f1 i) (tw c M2 f2 i) (tw c M3 f3 i) := by rw [e1, e2, e3]; exact chk2_lit _
  have k3 : k0_chk3 i (tw c M1 f1 i) (tw c M2 f2 i) (tw c M3 f3 i) (tw c M4 f4 i) := by rw [e1, e2, e3, e4]; exact chk3_lit _
  have k5 : k0_chk5 i (tw c M2 f2 i) (tw c M4 f4 i) (tw c M5 f5 i) := by rw [e2, e4, e5]; exact chk5_lit _
  have k4 : k0_chk4 i (tw c M2 f2 i) (tw c M4 f4 i) (tw c M6 f6 i) := by rw [e2, e4, e6]; exact chk4_lit _
  simp only [cc0__body_eq_skeleton]; unfold cc0__body_skel Held
  iintro ⟨⟨H1, H2, H3, H4, H5, H6, H7, H8, H9, H10, H11, H12, H13, H14, H15, H16⟩, Hk⟩
  sl_exec
  sl_step
  iapply Hk
  isplitl [H1 H2 H3 H4 H5 H6 H7 H8 H9 H10 H11 H12 H13 H14 H15 H16]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  ipureintro
  have hw : wT (i 0) = 1040 := wT_of_eq _ ((c15_s _).mp (e2 ▸ hc15))
  have h11 : k0_cond25 (tw c M6 f6 i) = 1#1 ↔ lit5 (i 0) = 1#32 := by rw [e6]; exact c25_s _
  have h12 : k0_cond26 (tw c M1 f1 i) (tw c M2 f2 i) = 1#1 ↔ aT (i 0) < m0T (i 0) := by rw [e1, e2]; exact c26_s _
  have h13 : k0_cond27 (tw c M1 f1 i) (tw c M2 f2 i) = 1#1 ↔ aT (i 0) < m1T (i 0) := by rw [e1, e2]; exact c27_s _
  have h14 : k0_cond28 (tw c M5 f5 i) = 1#1 ↔ lit4 (i 0) = 1#32 := by rw [e5]; exact c28_s _
  have o11 : k0_off24 (tw c M4 f4 i) = ![(oT (i 0)).val, 0, 0] := by rw [e4]; exact off24_s _
  have o12 : k0_off25 (tw c M2 f2 i) = ![(m0T (i 0)).val, 0, 0] := by rw [e2]; exact off25_s _
  have o13 : k0_off26 (tw c M2 f2 i) = ![(m1T (i 0)).val, 0, 0] := by rw [e2]; exact off26_s _
  have o14 : k0_off27 (tw c M4 f4 i) = ![(oT (i 0)).val, 0, 0] := by rw [e4]; exact off27_s _
  refine ⟨fun r f => ?acc, rfl, rfl, fun h r f => ?outn, fun h => ?outk⟩
  case acc =>
    refine cond_add c M16 h13 _ _ _ r f _ _ (cond_add c M16 h12 _ _ _ r f _ _ (cond_set c M16 h11 _ _ (fun _ => k0_pay19 _) r f _ fun _ => (pay19_at _ r f).trans (ld_row c M13 f13 _ _ o11 r f)) fun _ => ?_) fun _ => ?_
    · refine (pay20_at _ _ _ r f).trans (congrArg₂ (· + ·) (ld_all c M16 _ _ r f) ?_)
      exact Finset.sum_congr rfl fun k _ => congrArg₂ (· * ·) (ld_lo c M7 f7 _ r k) (ld_row c M12 f12 _ _ o12 k f)
    · refine (pay21_at _ _ _ r f).trans (congrArg₂ (· + ·) (ld_all c M16 _ _ r f) ?_)
      rw [hw, ← hi7_cut]
      exact Finset.sum_congr rfl fun k _ => congrArg₂ (· * ·) (ld_hi' c M7 f7 _ r k) (ld_row' c M12 f12 _ _ o13 k f)
  case outn =>
    refine (rd_pos c M11 (h14.mpr h) _ _ _).trans ((st_all c M11 _ _ _ r f).trans ((pay22_at _ _ _ _ _ _ _ r f).trans ?_))
    unfold proj
    refine congrArg₂ (· + ·) (congrArg₂ (· + ·) (congrArg₂ (· + ·) ?_ ?_) ?_) (ld_b c M10 f10 _ f)
    · exact Finset.sum_congr rfl fun e _ => congrArg₂ (· * ·) (ld_row c M8 f8 _ _ o14 r e) (congrArg₂ (· - ·) (ld_w c M9 f9 0 _ e f) (ld_w c M9 f9 2 _ e f))
    · exact Finset.sum_congr rfl fun e _ => congrArg₂ (· * ·) (ld_row c M12 f12 _ _ o14 r e) (ld_w c M9 f9 1 _ e f)
    · exact Finset.sum_congr rfl fun e _ => congrArg₂ (· * ·) (congrArg (Ideal.ofBits .f32 0x40000000#32 * ·) (ld_all c M16 _ _ r e)) (ld_w c M9 f9 2 _ e f)
  case outk =>
    funext j
    exact rd_neg c M11 (fun h' => h (h14.mp h')) _ _ _

end Cert.KernelIdeal.Hand
end
-- ==== Proof.Point.lean ====
module

public import proofs.«01_k».proof.Proof.Invariant
public import proofs.«01_k».proof.Proof.RunA
public import proofs.«01_k».proof.Proof.RunAEdge
public import proofs.«01_k».proof.Proof.RunB
public import proofs.«01_k».proof.Proof.RunBEdge

@[expose] public section

set_option maxRecDepth 16384

noncomputable section

namespace Cert.KernelIdeal.Hand

open Idealize.ShloMosaic Idealize.ShloMosaic.TcCoe Idealize.ShloMosaic.Pipeline
open Idealize.SL Idealize.SL.RA Idealize.SL.BI Idealize.SL.Sem
open scoped Idealize.SL.BI
open Idealize.SL.BI.BIBase
open Cert.KernelIdeal Cert.KernelIdeal.Gen

local notation "𝕄" => MT nD τ sig Unit (Elt Ideal) ℕ (UR sig nD τ) ℕ

variable (c : Dev nD) (i : grid0.Coords) (E : Set ℕ) (q : PosShare TreeShare)
  (M1 : Memref sig .tc .smem S48 .i32) (h1 : M1.IsWhole)
  (M2 : Memref sig .tc .smem S48 .i32) (h2 : M2.IsWhole)
  (M3 : Memref sig .tc .smem S48 .i32) (h3 : M3.IsWhole)
  (M4 : Memref sig .tc .smem S48 .i32) (h4 : M4.IsWhole)
  (M5 : Memref sig .tc .smem S48 .i32) (h5 : M5.IsWhole)
  (M6 : Memref sig .tc .smem S48 .i32) (h6 : M6.IsWhole)
  (M7 : Memref sig .tc .vmem S1280x2560 .f32) (h7 : M7.IsWhole)
  (M8 : Memref sig .tc .vmem S8x1280x128 .f32) (h8 : M8.IsWhole)
  (M9 : Memref sig .tc .vmem S3x128x128 .f32) (h9 : M9.IsWhole)
  (M10 : Memref sig .tc .vmem S1x128 .f32) (h10 : M10.IsWhole)
  (M11 : Memref sig .tc .vmem S1280x128 .f32) (h11 : M11.IsWhole)
  (M12 : Memref sig .tc .vmem S8x1280x128 .f32) (h12 : M12.IsWhole)
  (M13 : Memref sig .tc .vmem S8x1280x128 .f32) (h13 : M13.IsWhole)
  (M14 : Memref sig .tc .vmem S1280x128 .f32) (h14 : M14.IsWhole)
  (M15 : Memref sig .tc .vmem S1280x128 .f32) (h15 : M15.IsWhole)
  (M16 : Memref sig .tc .vmem S1280x128 .f32) (h16 : M16.IsWhole)
  (f1 : Buf (Elt Ideal) (M1.view.loc (c : Thread nD τ)))
  (f2 : Buf (Elt Ideal) (M2.view.loc (c : Thread nD τ)))
  (f3 : Buf (Elt Ideal) (M3.view.loc (c : Thread nD τ)))
  (f4 : Buf (Elt Ideal) (M4.view.loc (c : Thread nD τ)))
  (f5 : Buf (Elt Ideal) (M5.view.loc (c : Thread nD τ)))
  (f6 : Buf (Elt Ideal) (M6.view.loc (c : Thread nD τ)))
  (f7 : Buf (Elt Ideal) (M7.view.loc (c : Thread nD τ)))
  (f8 : Buf (Elt Ideal) (M8.view.loc (c : Thread nD τ)))
  (f9 : Buf (Elt Ideal) (M9.view.loc (c : Thread nD τ)))
  (f10 : Buf (Elt Ideal) (M10.view.loc (c : Thread nD τ)))
  (f11 : Buf (Elt Ideal) (M11.view.loc (c : Thread nD τ)))
  (f12 : Buf (Elt Ideal) (M12.view.loc (c : Thread nD τ)))
  (f13 : Buf (Elt Ideal) (M13.view.loc (c : Thread nD τ)))
  (f14 : Buf (Elt Ideal) (M14.view.loc (c : Thread nD τ)))
  (f15 : Buf (Elt Ideal) (M15.view.loc (c : Thread nD τ)))
  (f16 : Buf (Elt Ideal) (M16.view.loc (c : Thread nD τ)))

set_option maxHeartbeats 1000000 in
/-- A grid point keeps the invariant, writes the output block meant where it writes one, and leaves the output's buffer alone elsewhere. -/
theorem run_point {L : Vec Ideal S10000x10000 .f32}
    (e1 : tw c M1 f1 i = lit0 (i 0)) (e2 : tw c M2 f2 i = lit1 (i 0)) (e3 : tw c M3 f3 i = lit2 (i 0)) (e4 : tw c M4 f4 i = lit3 (i 0))
    (e5 : tw c M5 f5 i = lit4 (i 0)) (e6 : tw c M6 f6 i = lit5 (i 0))
    (hL : HoldsL L (i 0) (M7.view.read (Elt Ideal) f7))
    (hI : Inv L (M8.view.read (Elt Ideal) f8) (i 0).val (M12.view.read (Elt Ideal) f12) (M13.view.read (Elt Ideal) f13) (M14.view.read (Elt Ideal) f14) (M15.view.read (Elt Ideal) f15) (M16.view.read (Elt Ideal) f16))
    (K : PUnit → sProp 𝕄) :
    iprop(Held c q M1 M2 M3 M4 M5 M6 M7 M8 M9 M10 M11 M12 M13 M14 M15 M16 f1 f2 f3 f4 f5 f6 f7 f8 f9 f10 f11 f12 f13 f14 f15 f16
      ∗ (∀ (g11 : Buf (Elt Ideal) (M11.view.loc (c : Thread nD τ))) (g12 : Buf (Elt Ideal) (M12.view.loc (c : Thread nD τ))) (g13 : Buf (Elt Ideal) (M13.view.loc (c : Thread nD τ))) (g14 : Buf (Elt Ideal) (M14.view.loc (c : Thread nD τ))) (g15 : Buf (Elt Ideal) (M15.view.loc (c : Thread nD τ))) (g16 : Buf (Elt Ideal) (M16.view.loc (c : Thread nD τ))),
          (Held c q M1 M2 M3 M4 M5 M6 M7 M8 M9 M10 M11 M12 M13 M14 M15 M16 f1 f2 f3 f4 f5 f6 f7 f8 f9 f10 g11 g12 g13 g14 g15 g16
            ∗ ⌜Inv L (M8.view.read (Elt Ideal) f8) ((i 0).val + 1) (M12.view.read (Elt Ideal) g12) (M13.view.read (Elt Ideal) g13) (M14.view.read (Elt Ideal) g14) (M15.view.read (Elt Ideal) g15) (M16.view.read (Elt Ideal) g16)
              ∧ (em (i 0) → ∀ r f, okr (oT (i 0)) r → (M11.view.read (Elt Ideal) g11) (ix2 r f) = Ov L (M8.view.read (Elt Ideal) f8) (M9.view.read (Elt Ideal) f9) (M10.view.read (Elt Ideal) f10) (oT (i 0)) r f)
              ∧ (¬ em (i 0) → (M11.view.read (Elt Ideal) g11) = (M11.view.read (Elt Ideal) f11))⌝) -∗ K ⟨⟩))
      ⊢ wp frame (wpE (defs₀ (F := Ideal)) 𝒱₀ c none) E
          (cc0__body i M1 h1 M2 h2 M3 h3 M4 h4 M5 h5 M6 h6 M7 h7 M8 h8 M9 h9 M10 h10 M11 h11 M12 h12 M13 h13 M14 h14 M15 h15 M16 h16) K := by
  by_cases hs : (i 0).val < 32
  · by_cases hm7 : m1T (i 0) = 7
    · have hc1 : ¬ k0_cond1 (tw c M2 f2 i) = 1#1 := by rw [e2]; exact fun h => (c1_s _).mp h hm7
      have hc15 : k0_cond15 (tw c M2 f2 i) = 1#1 := by rw [e2]; exact (c15_s _).mpr hm7
      iintro ⟨H, Hk⟩
      iapply (run_A_edge c i E q M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 e1 e2 e3 e4 e5 e6 hc1 hc15 ((c16_s i).mpr hs) (fun h => (c24_s i).mp h hs) K)
      isplitl [H]; · iexact H
      iintro %g11 %g12 %g13 %g14 %g15 %g16 ⟨H, %h⟩
      iapply Hk
      isplitl [H]; · iexact H
      ipureintro; exact inv_A hs hL hI h
    · have hc1 : k0_cond1 (tw c M2 f2 i) = 1#1 := by rw [e2]; exact (c1_s _).mpr hm7
      have hc15 : ¬ k0_cond15 (tw c M2 f2 i) = 1#1 := by rw [e2]; exact fun h => hm7 ((c15_s _).mp h)
      iintro ⟨H, Hk⟩
      iapply (run_A c i E q M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 e1 e2 e3 e4 e5 e6 hc1 ((c2_s i).mpr hs) (fun h => (c10_s i).mp h hs) hc15 K)
      isplitl [H]; · iexact H
      iintro %g11 %g12 %g13 %g14 %g15 %g16 ⟨H, %h⟩
      iapply Hk
      isplitl [H]; · iexact H
      ipureintro; exact inv_A hs hL hI h
  · by_cases hm7 : m1T (i 0) = 7
    · have hc1 : ¬ k0_cond1 (tw c M2 f2 i) = 1#1 := by rw [e2]; exact fun h => (c1_s _).mp h hm7
      have hc15 : k0_cond15 (tw c M2 f2 i) = 1#1 := by rw [e2]; exact (c15_s _).mpr hm7
      iintro ⟨H, Hk⟩
      iapply (run_B_edge c i E q M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 e1 e2 e3 e4 e5 e6 hc1 hc15 (fun h => hs ((c16_s i).mp h)) ((c24_s i).mpr hs) K)
      isplitl [H]; · iexact H
      iintro %g11 %g12 %g13 %g14 %g15 %g16 ⟨H, %h⟩
      iapply Hk
      isplitl [H]; · iexact H
      ipureintro; exact inv_B hs hL hI h
    · have hc1 : k0_cond1 (tw c M2 f2 i) = 1#1 := by rw [e2]; exact (c1_s _).mpr hm7
      have hc15 : ¬ k0_cond15 (tw c M2 f2 i) = 1#1 := by rw [e2]; exact fun h => hm7 ((c15_s _).mp h)
      iintro ⟨H, Hk⟩
      iapply (run_B c i E q M1 h1 M2 h2 M3 h3 M4 h4 M5 h5 M6 h6 M7 h7 M8 h8 M9 h9 M10 h10 M11 h11 M12 h12 M13 h13 M14 h14 M15 h15 M16 h16 f1 f2 f3 f4 f5 f6 f7 f8 f9 f10 f11 f12 f13 f14 f15 f16 e1 e2 e3 e4 e5 e6 hc1 (fun h => hs ((c2_s i).mp h)) ((c10_s i).mpr hs) hc15 K)
      isplitl [H]; · iexact H
      iintro %g11 %g12 %g13 %g14 %g15 %g16 ⟨H, %h⟩
      iapply Hk
      isplitl [H]; · iexact H
      ipureintro; exact inv_B hs hL hI h

end Cert.KernelIdeal.Hand
end
-- ==== Proof.VBody.lean ====
module

public import proofs.«01_k».proof.Proof.VDats
public import proofs.«01_k».proof.Proof.Point

@[expose] public section

set_option maxRecDepth 16384

noncomputable section

namespace Cert.KernelIdeal.Hand

open Idealize.ShloMosaic Idealize.ShloMosaic.TcCoe Idealize.ShloMosaic.Pipeline
open Idealize.SL Idealize.SL.RA Idealize.SL.BI Idealize.SL.Sem
open scoped Idealize.SL.BI
open Idealize.SL.BI.BIBase
open Cert.KernelIdeal Cert.KernelIdeal.Gen

local notation "𝕄" => MT nD τ sig Unit (Elt Ideal) ℕ (UR sig nD τ) ℕ

variable (V : Dev nD → Valuation τ sig (Elt Ideal)) (c : Dev nD)

/-- What the point leaves in the output's buffer is what the call's data asks of it. -/
theorem leaves_4 (t : Fin cfgI.N) (G : Vec Ideal S1280x128 .f32) (h1 : em t → ∀ r f, okr (oT t) r → G (ix2 r f) = oblk V c t (ix2 r f))
    (h2 : ¬ em t → ∃ d, G = (vdats V 0 c).before 4 t d) :
    (owns c ((cfgI.win 4).stage (cfgI.slots t 4)) fullShare G : sProp 𝕄) ⊢ (vdats V 0 c).leaves 4 t := by
  by_cases he : em t
  · have hf : (cfgI.win 4).flush t = true := (flush_4 t).mpr he
    have key : (owns c ((cfgI.win 4).stage (cfgI.slots t 4)) fullShare G : sProp 𝕄)
        ⊢ iprop(∃ d, owns c ((cfgI.win 4).stage (cfgI.slots t 4)) fullShare ((cfgI.win 4).fill (cfgI.grid.coords t) d ((cfgI.win 4).cut (cfgI.grid.coords t) (oblk V c t)))) := by
      iintro H; iexists G; rw [fill_4 V c t he G (h1 he)]; iexact H
    refine key.trans ?_
    unfold Dat.leaves
    show _ ⊢ (match cfgI.idle 4 (cfgI.grid.coords t) with | true => _ | false => _)
    cases cfgI.idle 4 (cfgI.grid.coords t)
    · exact .rfl
    · show _ ⊢ (match (cfgI.win 4).flush t with | false => _ | true => _)
      rw [hf]; exact .rfl
  · have hf : (cfgI.win 4).flush t = false := Bool.eq_false_iff.mpr fun h => he ((flush_4 t).mp h)
    rw [(vdats V 0 c).leaves_idle 4 t (idle_4 t he) hf]
    obtain ⟨d, rfl⟩ := h2 he
    iintro H; iexists d; iexact H

theorem owns_open {sp sh e} (M : Memref sig .tc sp sh e) (hM : M.IsWhole) (X : Vec Ideal sh e) :
    (owns c M fullShare X : sProp 𝕄) ⊢ iprop(∃ f, ⌜M.view.read (Elt Ideal) f = X⌝ ∗ (M.view.loc (c : Thread nD τ) ↦{fullShare} f)) := by
  simp only [owns, hM.set_eq_univ]; exact .rfl
theorem owns_of {sp sh e} (M : Memref sig .tc sp sh e) (hM : M.IsWhole) (X : Vec Ideal sh e) (f : Buf (Elt Ideal) (M.view.loc (c : Thread nD τ)))
    (h : M.view.read (Elt Ideal) f = X) : (iprop(M.view.loc (c : Thread nD τ) ↦{fullShare} f) : sProp 𝕄) ⊢ owns c M fullShare X := by
  simp only [owns, hM.set_eq_univ]; iintro H; iexists f; isplitr; · ipureintro; exact h
  iexact H

theorem leaves_0 (t : Fin cfgI.N) (d) :
    (owns c ((cfgI.win 0).stage (cfgI.slots t 0)) fullShare ((cfgI.win 0).fill (cfgI.grid.coords t) d (lblk V c t)) : sProp 𝕄) ⊢ (vdats V 0 c).leaves 0 t := by
  have h : (vdats V 0 c).kept 0 t d = (cfgI.win 0).fill (cfgI.grid.coords t) d (lblk V c t) :=
    congrArg ((cfgI.win 0).fill (cfgI.grid.coords t) d) ((cfgI.win 0).cut_fill _ _ _)
  rw [← h]
  unfold Dat.leaves
  iintro H; iexists d; iexact H

set_option maxHeartbeats 1000000 in
/-- The body keeps the values at every grid point, stated window by window. -/
theorem vbody_at (t : Fin cfgI.N) :
    (iprop(ΦV V c t.val ∗ (vdats V 0 c).owesAt () t.castSucc
      ∗ (∃ d, owns c ((cfgI.win 0).stage (cfgI.slots t 0)) fullShare ((vdats V 0 c).before 0 t d))
      ∗ (∃ d, owns c ((cfgI.win 1).stage (cfgI.slots t 1)) fullShare ((vdats V 0 c).before 1 t d))
      ∗ (∃ d, owns c ((cfgI.win 2).stage (cfgI.slots t 2)) fullShare ((vdats V 0 c).before 2 t d))
      ∗ (∃ d, owns c ((cfgI.win 3).stage (cfgI.slots t 3)) fullShare ((vdats V 0 c).before 3 t d))
      ∗ (∃ d, owns c ((cfgI.win 4).stage (cfgI.slots t 4)) fullShare ((vdats V 0 c).before 4 t d))) : sProp 𝕄)
    ⊢ wp frame (wpE (defs₀ (F := Ideal)) 𝒱₀ c none) Set.univ (defs₀ (F := Ideal) .tc cfgI.body (cfgI.bodyArgs t (cfgI.slots t))) fun _ =>
      iprop(ΦV V c (t.val + 1) ∗ (vdats V 0 c).owesAt () t.castSucc ∗ (vdats V 0 c).leaves 0 t ∗ (vdats V 0 c).leaves 1 t
        ∗ (vdats V 0 c).leaves 2 t ∗ (vdats V 0 c).leaves 3 t ∗ (vdats V 0 c).leaves 4 t) := by
  unfold ΦV ΦT
  rw [tables_eq]
  simp only [before_0, before_1, before_2, before_3]
  iintro ⟨⟨⟨%g0, %g1, %g2, %g3, %g4, %hI, G0, G1, G2, G3, G4⟩, ⟨%r, Hr⟩, HT⟩, Ho, ⟨%d0, H0⟩, ⟨%d1, H1⟩, ⟨%d2, H2⟩, ⟨%d3, H3⟩, ⟨%d4, H4⟩⟩
  icases HT with ⟨T1, T2, T3, T4, T5, T6⟩
  ihave H0 := (owns_open c ((cfgI.win 0).stage (cfgI.slots t 0)) (hstage0_0 _) _) $$ H0
  ihave H1 := (owns_open c ((cfgI.win 1).stage (cfgI.slots t 1)) (hstage0_1 _) _) $$ H1
  ihave H2 := (owns_open c ((cfgI.win 2).stage (cfgI.slots t 2)) (hstage0_2 _) _) $$ H2
  ihave H3 := (owns_open c ((cfgI.win 3).stage (cfgI.slots t 3)) (hstage0_3 _) _) $$ H3
  ihave H4 := (owns_open c ((cfgI.win 4).stage (cfgI.slots t 4)) (hstage0_4 _) _) $$ H4
  icases H0 with ⟨%f0, %hf0, H0⟩
  icases H1 with ⟨%f1, %hf1, H1⟩
  icases H2 with ⟨%f2, %hf2, H2⟩
  icases H3 with ⟨%f3, %hf3, H3⟩
  icases H4 with ⟨%f4, %hf4, H4⟩
  have e1 := tw_whole (F := Ideal) c (Memref.whole main_call0_c) (tabs 0) lit0 rfl (grid0.coords t)
  have e2 := tw_whole (F := Ideal) c (Memref.whole main_call0_c_0) (tabs 1) lit1 rfl (grid0.coords t)
  have e3 := tw_whole (F := Ideal) c (Memref.whole main_call0_c_1) (tabs 2) lit2 rfl (grid0.coords t)
  have e4 := tw_whole (F := Ideal) c (Memref.whole main_call0_c_2) (tabs 3) lit3 rfl (grid0.coords t)
  have e5 := tw_whole (F := Ideal) c (Memref.whole main_call0_c_3) (tabs 4) lit4 rfl (grid0.coords t)
  have e6 := tw_whole (F := Ideal) c (Memref.whole main_call0_c_4) (tabs 5) lit5 rfl (grid0.coords t)
  have e0' : (spec0_0.stage (cfgI.slots t 0)).view.read (Elt Ideal) f0 = (cfgI.win 0).fill (cfgI.grid.coords t) d0 (lblk V c t) := hf0
  have e1' : (spec0_1.stage (cfgI.slots t 1)).view.read (Elt Ideal) f1 = aX V c := hf1
  have e2' : (spec0_2.stage (cfgI.slots t 2)).view.read (Elt Ideal) f2 = aW V c := hf2
  have e3' : (spec0_3.stage (cfgI.slots t 3)).view.read (Elt Ideal) f3 = aB V c := hf3
  have hc : (grid0.coords t) 0 = t := Fin.ext (coords0 t)
  iapply (run_point c (grid0.coords t) Set.univ fullShare.right
    (Memref.whole main_call0_c) (Memref.isWhole_whole _) (Memref.whole main_call0_c_0) (Memref.isWhole_whole _)
    (Memref.whole main_call0_c_1) (Memref.isWhole_whole _) (Memref.whole main_call0_c_2) (Memref.isWhole_whole _)
    (Memref.whole main_call0_c_3) (Memref.isWhole_whole _) (Memref.whole main_call0_c_4) (Memref.isWhole_whole _)
    (spec0_0.stage (cfgI.slots t 0)) (hstage0_0 _) (spec0_1.stage (cfgI.slots t 1)) (hstage0_1 _)
    (spec0_2.stage (cfgI.slots t 2)) (hstage0_2 _) (spec0_3.stage (cfgI.slots t 3)) (hstage0_3 _)
    (spec0_4.stage (cfgI.slots t 4)) (hstage0_4 _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _)
    (tabs 0) (tabs 1) (tabs 2) (tabs 3) (tabs 4) (tabs 5) f0 f1 f2 f3 f4 g0 g1 g2 g3 g4 (L := aL V c)
    e1 e2 e3 e4 e5 e6 (by rw [hc, e0']; exact holdsL V c t d0) (by rw [hc, e1']; exact hI))
  unfold Held
  isplitl [T1 T2 T3 T4 T5 T6 H0 H1 H2 H3 H4 G0 G1 G2 G3 G4]
  · skip
    isplitl [T1]; · iexact T1
    isplitl [T2]; · iexact T2
    isplitl [T3]; · iexact T3
    isplitl [T4]; · iexact T4
    isplitl [T5]; · iexact T5
    isplitl [T6]; · iexact T6
    isplitl [H0]; · iexact H0
    isplitl [H1]; · iexact H1
    isplitl [H2]; · iexact H2
    isplitl [H3]; · iexact H3
    isplitl [H4]; · iexact H4
    isplitl [G0]; · iexact G0
    isplitl [G1]; · iexact G1
    isplitl [G2]; · iexact G2
    isplitl [G3]; · iexact G3
    iexact G4
  iintro %k4 %l0 %l1 %l2 %l3 %l4 ⟨⟨T1, T2, T3, T4, T5, T6, H0, H1, H2, H3, H4, G0, G1, G2, G3, G4⟩, %h⟩
  isplitl [T1 T2 T3 T4 T5 T6 G0 G1 G2 G3 G4 Hr]
  · isplitl [G0 G1 G2 G3 G4]
    · iexists l0; iexists l1; iexists l2; iexists l3; iexists l4
      isplitr
      · ipureintro; have := h.1; rw [hc, e1'] at this; exact this
      isplitl [G0]; · iexact G0
      isplitl [G1]; · iexact G1
      isplitl [G2]; · iexact G2
      isplitl [G3]; · iexact G3
      iexact G4
    isplitl [Hr]
    · iexists r; iexact Hr
    isplitl [T1]; · iexact T1
    isplitl [T2]; · iexact T2
    isplitl [T3]; · iexact T3
    isplitl [T4]; · iexact T4
    isplitl [T5]; · iexact T5
    iexact T6
  isplitl [Ho]; · iexact Ho
  isplitl [H0]
  · iapply (leaves_0 V c t d0)
    iapply (owns_of c ((cfgI.win 0).stage (cfgI.slots t 0)) (hstage0_0 _) _ f0 hf0); iexact H0
  isplitl [H1]
  · iapply (owns_of c ((cfgI.win 1).stage (cfgI.slots t 1)) (hstage0_1 _) _ f1 hf1); iexact H1
  isplitl [H2]
  · iapply (owns_of c ((cfgI.win 2).stage (cfgI.slots t 2)) (hstage0_2 _) _ f2 hf2); iexact H2
  isplitl [H3]
  · iapply (owns_of c ((cfgI.win 3).stage (cfgI.slots t 3)) (hstage0_3 _) _ f3 hf3); iexact H3
  iapply (leaves_4 V c t (((cfgI.win 4).stage (cfgI.slots t 4)).view.read (Elt Ideal) k4)
    (fun he r f hr => by
      have := h.2.1; rw [hc] at this
      have h' := this he r f hr
      rw [e1', e2', e3'] at h'
      exact h')
    (fun he => ⟨d4, by have := h.2.2; rw [hc] at this; exact (this he).trans hf4⟩))
  iapply (owns_of c ((cfgI.win 4).stage (cfgI.slots t 4)) (hstage0_4 _) _ k4 rfl); iexact H4

/-- The body keeps the values at every grid point. -/
theorem vbody : BodyObligationLoose (vdats V 0 c) (defs₀ (F := Ideal)) 𝒱₀ () Set.univ := fun t => by
  rw [bigSep_W0, bigSep_W0]
  exact vbody_at V c t

end Cert.KernelIdeal.Hand
end
-- ==== Proof.VRun.lean ====
module

public import proofs.«01_k».proof.Proof.VBody
public import proofs.«01_k».proof.Proof.FrameRun

@[expose] public section

set_option maxRecDepth 16384

noncomputable section

namespace Cert.KernelIdeal.Hand

open Idealize.ShloMosaic Idealize.ShloMosaic.TcCoe Idealize.ShloMosaic.Pipeline
open Idealize.SL Idealize.SL.RA Idealize.SL.BI Idealize.SL.Sem
open scoped Idealize.SL.BI
open Idealize.SL.BI.BIBase
open Cert.KernelIdeal Cert.KernelIdeal.Gen

local notation "𝕄" => MT nD τ sig Unit (Elt Ideal) ℕ (UR sig nD τ) ℕ

section
variable (V : Dev nD → Valuation τ sig (Elt Ideal)) (c : Dev nD)

/-- The output array the call leaves. -/
def outF : Vec Ideal S10000x128 .f32 := fun j =>
  have h : (j 0).val < 10000 := (j 0).isLt
  Ov (aL V c) (aX V c) (aW V c) (aB V c) ⟨(j 0).val / 1280, by omega⟩ ⟨(j 0).val % 1280, Nat.mod_lt _ (by omega)⟩ (j 1)

theorem outF_at (j : S10000x128.Idx) (b : Fin 8) (r : Fin 1280) (f : Fin 128) (h0 : (j 0).val = b.val * 1280 + r.val) (h1 : (j 1).val = f.val) :
    outF V c j = Ov (aL V c) (aX V c) (aW V c) (aB V c) b r f := by
  have h : (j 0).val < 10000 := (j 0).isLt
  have hb : (⟨(j 0).val / 1280, by omega⟩ : Fin 8) = b := Fin.ext (by show (j 0).val / 1280 = b.val; omega)
  have hr : (⟨(j 0).val % 1280, Nat.mod_lt _ (by omega)⟩ : Fin 1280) = r := Fin.ext (by show (j 0).val % 1280 = r.val; omega)
  have hf : j 1 = f := Fin.ext h1
  show Ov _ _ _ _ ⟨(j 0).val / 1280, _⟩ ⟨(j 0).val % 1280, _⟩ (j 1) = _
  rw [hb, hr, hf]

theorem flushed_4 (t : Fin cfgI.N) (hf : (cfgI.win 4).flush t = true) :
    (vdats V 0 c).flushed 4 t = ((cfgI.win 4).blk t).view.read (Elt Ideal) (outF V c) := by
  have he := (flush_4 t).mp hf
  have hi : (cfgI.win 4).index t = ![(oT t).val, 0] := ix_4 t he
  funext j
  have hj0 : (j 0).val < (cfgI.win 4).xsize (grid0.coords t) 0 := (j 0).isLt
  have hj1 : (j 1).val < (cfgI.win 4).xsize (grid0.coords t) 1 := (j 1).isLt
  rw [(xs_4 t he).1] at hj0
  rw [(xs_4 t he).2] at hj1
  have hj0' : (j 0).val < 1280 := by split at hj0 <;> omega
  show oblk V c t _ = outF V c (((cfgI.win 4).rect t).emb j)
  refine ((outF_at V c _ (oT t) ⟨(j 0).val, hj0'⟩ ⟨(j 1).val, hj1⟩ ?_ ?_).trans ?_).symm
  · refine ((cfgI.win 4).rect_emb_val t j (0 : Fin 2)).trans ?_
    show (cfgI.win 4).index t 0 * 1280 + (j 0).val = _
    rw [hi]; rfl
  · refine ((cfgI.win 4).rect_emb_val t j (1 : Fin 2)).trans ?_
    show (cfgI.win 4).index t 1 * 128 + (j 1).val = _
    rw [hi]; show 0 * 128 + (j 1).val = (j 1).val; omega
  · rfl

theorem cover_4 (i : S10000x128.Idx) : ∃ t : Fin cfgI.N, (cfgI.win 4).flush t = true ∧ i ∈ ((cfgI.win 4).blk t).view.set := by
  have h0 : (i 0).val < 10000 := (i 0).isLt
  have h1 : (i 1).val < 128 := (i 1).isLt
  obtain ⟨t, he, ho⟩ := em_cover ⟨(i 0).val / 1280, by omega⟩
  refine ⟨t, (flush_4 t).mpr he, ?_⟩
  have hi : (cfgI.win 4).index t = ![(oT t).val, 0] := ix_4 t he
  show i ∈ ((View.whole main_call0_v20).slice ((cfgI.win 4).rect t)).set
  rw [View.set_slice_whole, Rect.mem_set_unit]
  intro a
  match a with
  | ⟨0, _⟩ =>
    show (cfgI.win 4).index t 0 * 1280 ≤ (i 0).val ∧ (i 0).val < (cfgI.win 4).index t 0 * 1280 + (cfgI.win 4).xsize (grid0.coords t) 0
    rw [hi, (xs_4 t he).1, ho]
    show (i 0).val / 1280 * 1280 ≤ (i 0).val ∧ (i 0).val < (i 0).val / 1280 * 1280 + _
    by_cases h7 : (i 0).val / 1280 = 7
    · rw [if_pos (Fin.ext h7)]; omega
    · rw [if_neg (fun h => h7 (congrArg Fin.val h))]; omega
  | ⟨1, _⟩ =>
    show (cfgI.win 4).index t 1 * 128 ≤ (i 1).val ∧ (i 1).val < (cfgI.win 4).index t 1 * 128 + (cfgI.win 4).xsize (grid0.coords t) 1
    rw [hi, (xs_4 t he).2]
    show 0 * 128 ≤ (i 1).val ∧ (i 1).val < 0 * 128 + 128
    omega

/-- The call's result. -/
theorem out_final : (vdats V 0 c).arrAt 4 cfgI.N = outF V c :=
  (vdats V 0 c).arrAt_eq_of_cover 4 (outF V c) (fun t hf => flushed_4 V c t hf) (cover_4)

theorem phi_in : (iprop(ΦA spec0 c ∗ ΦT pre0 tabs c) : sProp 𝕄) ⊢ ΦV V c 0 := by
  unfold ΦA ΦV
  rw [scopedRest0_eq]
  iintro ⟨⟨⟨⟨%g0, G0⟩, ⟨%g1, G1⟩, ⟨%g2, G2⟩, ⟨%g3, G3⟩, ⟨%g4, G4⟩⟩, Hr⟩, HT⟩
  isplitl [G0 G1 G2 G3 G4]
  · iexists g0; iexists g1; iexists g2; iexists g3; iexists g4
    isplitr
    · ipureintro; exact inv_zero _ _ _ _ _ _ _
    isplitl [G0]; · iexact G0
    isplitl [G1]; · iexact G1
    isplitl [G2]; · iexact G2
    isplitl [G3]; · iexact G3
    iexact G4
  isplitl [Hr]; · iexact Hr
  iexact HT

theorem phi_out (n : ℕ) : (ΦV V c n : sProp 𝕄) ⊢ ΦA spec0 c := by
  unfold ΦA ΦV
  rw [scopedRest0_eq]
  iintro ⟨⟨%g0, %g1, %g2, %g3, %g4, -, G0, G1, G2, G3, G4⟩, Hr, -⟩
  isplitl [G0 G1 G2 G3 G4]
  · isplitl [G0]; · iexists g0; iexact G0
    isplitl [G1]; · iexists g1; iexact G1
    isplitl [G2]; · iexists g2; iexact G2
    isplitl [G3]; · iexists g3; iexact G3
    iexists g4; iexact G4
  iexact Hr
end

section
variable (m : (ℓ : Loc nD τ sig) → Buf (Elt Ideal) ℓ) (ρ : Dev nD → PrngReg)

/-- The program's result: the call's, its features parted and its axes put in order. -/
def outV (V : Dev nD → Valuation τ sig (Elt Ideal)) (c : Dev nD) : Vec Ideal S4x10000x32 .f32 :=
  transpose S4x10000x32 [1, 0, 2] (shapeCast S10000x4x32 (outF V c) shapeCasts_S10000x128_S10000x4x32) transposes_S10000x4x32_S4x10000x32_1_0_2

set_option backward.isDefEq.respectTransparency.types false in
theorem tail_out (V : Dev nD → Valuation τ sig (Elt Ideal)) (c : Dev nD) (W : Valuation τ sig (Elt Ideal)) (hW : W (Proc.devRef .tc main_call0_v20) = outF V c) :
    StableHlo.after (hostOps1 (F := Ideal)) W (Proc.devRef .tc main_v0) = outV V c := by
  unfold outV; rw [← hW]
  after_results <;> rfl

set_option backward.isDefEq.respectTransparency.types false in
set_option maxHeartbeats 1000000 in
/-- The program ends with its result at the call's values and its arguments as they were. -/
theorem value : θ_run defs (onTc (τ := τ) (main (F := Ideal))) ⟨m, fun _ => 0, ρ⟩ fun r =>
    ∀ c : Dev nD, r.2.mem ((c.tc : Thread nD τ).loc main_v0) = outV (V₀ m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Pipeline.θ_run_frameP_around_track pcfgs adm (vdats (V₀ m)) 0 launch0 defs₀ 𝒱₀ m ρ main
    (vbody (V₀ m)) (fun c => (vdats (V₀ m) 0 c).share_full fun _ => rfl) (fun _ _ => rfl) (V₀ m) [hostOps1]
    (by
      intro ops hops op hop
      rw [List.mem_singleton] at hops; subst hops
      rcases tail_mem hop with rfl | rfl
      · exact sub_tailRefs pre0 spec0 _ (StableHlo.reshape_bufs_sub ..) (fun k h => by
          have := tab_ne k; simp only [StableHlo.TRef.reshape, StableHlo.reshape_bufs, Finset.mem_insert, Finset.mem_singleton] at h
          rcases h with h | h <;> simp_all [(Proc.devRef_injective _ h)])
      · exact sub_tailRefs pre0 spec0 _ (StableHlo.unary_bufs_sub ..) (fun k h => by
          have := tab_ne k; simp only [StableHlo.TRef.unary, StableHlo.unary_bufs, Finset.mem_insert, Finset.mem_singleton] at h
          rcases h with h | h <;> simp_all [(Proc.devRef_injective _ h)]))
    (by
      intro ops hops op hop
      rw [List.mem_singleton] at hops; subst hops
      rcases tail_mem hop with rfl | rfl <;> rfl)
    (by
      intro ops hops op hop w
      rw [List.mem_singleton] at hops; subst hops
      exact tail_writes hop (arr_ne w))
    (hmainP_around pcfgs 0 defs₀ 𝒱₀ m main [hostOps0] [hostOps1] hostOps0_sub (by
      show List.Forall (fun op : HloOp τ sig (Elt Ideal) => op.fresh = ∅) hostOps0
      repeat' apply And.intro
      all_goals rfl) main_chain)
    (fun _ _ => rfl) (V₀_tab m) (fun c => phi_in (V₀ m) c) (fun c => phi_out (V₀ m) c _)
    _ (fun r h c => by
      have hn : ∀ w : Fin 5, arrRef spec0 w ≠ main_arg0 ∧ arrRef spec0 w ≠ main_arg2 ∧ arrRef spec0 w ≠ main_arg3 := by decide
      have hr : ∀ b : Ref sig .tc, b ∉ written → (∀ w : Fin 5, arrRef spec0 w ≠ b) → ¬ (b = main_call0_v21 ∨ b = main_v0) → b ∈ restRefs sig spec0 →
          r.2.mem ((c.tc : Thread nD τ).loc b) = m ((c.tc : Thread nD τ).loc b) := fun b h₁ h₂ h₃ h₄ => by
        refine ((h.1 c).2 b h₄).trans ((StableHlo.after_of_forall_not_mem (hostOps1 (F := Ideal)) _ fun op hop => tail_writes hop h₃).trans ?_)
        exact (withArrays_of_ne spec0 c (V₀ m c) _ b h₂).trans (V₀_of m c h₁)
      have h1 := (h.1 c).1 0
      rw [(vdats (V₀ m) 0 c).arrAt_in 0 rfl] at h1
      refine ⟨((h.1 c).2 main_v0 (by decide)).trans (tail_out (V₀ m) c _ ?_), hr _ (by decide) (fun w => (hn w).1) (by decide) (by decide),
        h1.trans (V₀_of m c (b := main_arg1) (by decide)), hr _ (by decide) (fun w => (hn w).2.1) (by decide) (by decide),
        hr _ (by decide) (fun w => (hn w).2.2) (by decide) (by decide)⟩
      exact (withArrays_arr spec0 (launch0 (F := Ideal)).win.arr_inj c (V₀ m c) _ 4).trans (out_final (V₀ m) c))
end

end Cert.KernelIdeal.Hand
end
-- ==== Proof.Answer.lean ====
module

public import proofs.«01_k».proof.Proof.Alg
public import proofs.«01_k».proof.Proof.HostVals
public import proofs.«01_k».proof.Proof.VRun
public import Idealize.ShloMosaic.Lib.Pointwise

@[expose] public section

set_option maxRecDepth 16384

noncomputable section

namespace Cert.KernelIdeal.Hand

open Idealize.ShloMosaic Idealize.ShloMosaic.TcCoe Idealize.ShloMosaic.Pipeline
open Idealize.SL Idealize.SL.RA Idealize.SL.BI Idealize.SL.Sem
open scoped Idealize.SL.BI
open Idealize.SL.BI.BIBase
open Cert.KernelIdeal Cert.KernelIdeal.Gen

section
variable (L : Vec Ideal S10000x10000 .f32) (x : Vec Ideal S4x10000x32 .f32) (w : Vec Ideal S4x3x32x32 .f32) (B : Vec Ideal S4x32 .f32)

/-- `L x`. -/
def yv (n : Fin 4) (g : Fin 10000) (i : Fin 32) : EReal := ∑ h : Fin 10000, L (ix2 g h) * x (ix3 n h i)

/-- `L (L x)`. -/
def zv (n : Fin 4) (g : Fin 10000) (i : Fin 32) : EReal := ∑ h : Fin 10000, L (ix2 g h) * yv L x n h i

/-- The kernel's result. -/
def kv (n : Fin 4) (g : Fin 10000) (o : Fin 32) : EReal :=
  (∑ i : Fin 32, x (ix3 n g i) * (w (ix4 n 0 i o) - w (ix4 n 2 i o))) + (∑ i : Fin 32, yv L x n g i * w (ix4 n 1 i o))
    + (∑ i : Fin 32, (Ideal.ofBits .f32 0x40000000#32 * zv L x n g i) * w (ix4 n 2 i o)) + B (ix2 n o)

/-- The reference's result. -/
def rv (n : Fin 4) (g : Fin 10000) (o : Fin 32) : EReal :=
  ((∑ i : Fin 32, x (ix3 n g i) * w (ix4 n 0 i o)) + ∑ i : Fin 32, yv L x n g i * w (ix4 n 1 i o))
    + (∑ i : Fin 32, (Ideal.ofBits .f32 0x40000000#32 * zv L x n g i - x (ix3 n g i)) * w (ix4 n 2 i o)) + B (ix2 n o)

variable {n : Fin 4} {g : Fin 10000} {i o : Fin 32} {b : Fin 8} {r : Fin 1280} {f : Fin 128}

theorem x_at (hf : f.val = 32 * n.val + i.val) (hg : g.val = 1280 * b.val + r.val) : hx5 x (ix3 b r f) = x (ix3 n g i) := by
  rw [hx5_at x b r f (hg ▸ g.isLt), hx1_at]
  rw [show (⟨f.val / 32, by omega⟩ : Fin 4) = n from Fin.ext (by show f.val / 32 = n.val; omega)]
  rw [show (⟨f.val % 32, by omega⟩ : Fin 32) = i from Fin.ext (by show f.val % 32 = i.val; omega)]
  exact congrArg (fun q => x (ix3 n q i)) (Fin.ext hg.symm)

theorem y_at (hf : f.val = 32 * n.val + i.val) (hg : g.val = 1280 * b.val + r.val) : Yv L (hx5 x) f b r = yv L x n g i :=
  seg_sum L _ (fun h => x (ix3 n h i)) (fun _ _ _ => x_at x hf rfl) b r g hg

theorem z_at (hf : f.val = 32 * n.val + i.val) (hg : g.val = 1280 * b.val + r.val) : Zv L (hx5 x) f b r = zv L x n g i :=
  seg_sum L _ (fun h => yv L x n h i) (fun _ _ _ => y_at L x hf rfl) b r g hg

theorem w_on {e : Fin 128} (k : Fin 3) (he : e.val = 32 * n.val + i.val) (hf : f.val = 32 * n.val + o.val) : hw18 w (ix3 k e f) = w (ix4 n k i o) := by
  rw [hw18_at, if_pos (by omega)]
  rw [show (⟨f.val / 32, by omega⟩ : Fin 4) = n from Fin.ext (by show f.val / 32 = n.val; omega)]
  rw [show (⟨e.val % 32, by omega⟩ : Fin 32) = i from Fin.ext (by show e.val % 32 = i.val; omega)]
  rw [show (⟨f.val % 32, by omega⟩ : Fin 32) = o from Fin.ext (by show f.val % 32 = o.val; omega)]

theorem w_off {e : Fin 128} (k : Fin 3) (he : e.val / 32 ≠ n.val) (hf : f.val = 32 * n.val + o.val) : hw18 w (ix3 k e f) = (0 : EReal) := by
  rw [hw18_at, if_neg (by omega)]

theorem b_at (hf : f.val = 32 * n.val + o.val) : (shapeCast S1x128 B shapeCasts_S4x32_S1x128) (ix2 0 f) = B (ix2 n o) := by
  refine Eq.trans (b := B (ix2 ⟨f.val / 32, by omega⟩ ⟨f.val % 32, by omega⟩)) (by pointwise) ?_
  rw [show (⟨f.val / 32, by omega⟩ : Fin 4) = n from Fin.ext (by show f.val / 32 = n.val; omega)]
  rw [show (⟨f.val % 32, by omega⟩ : Fin 32) = o from Fin.ext (by show f.val % 32 = o.val; omega)]

theorem Ov_at (hf : f.val = 32 * n.val + o.val) (hg : g.val = 1280 * b.val + r.val) :
    Ov L (hx5 x) (hw18 w) (shapeCast S1x128 B shapeCasts_S4x32_S1x128) b r f = kv L x w B n g o := by
  unfold Ov proj kv
  refine congrArg₂ (· + ·) (congrArg₂ (· + ·) (congrArg₂ (· + ·) ?_ ?_) ?_) (b_at B hf)
  · refine (sum_block _ n fun e he => ?_).trans (Finset.sum_congr rfl fun i _ => ?_)
    · rw [w_off w 0 he hf, w_off w 2 he hf, sub_zero, mul_zero]
    · rw [w_on w 0 rfl hf, w_on w 2 rfl hf]
      exact congrArg (fun q : EReal => q * (w (ix4 n 0 i o) - w (ix4 n 2 i o))) (x_at x (n := n) (i := i) (f := ⟨32 * n.val + i.val, by omega⟩) rfl hg)
  · refine (sum_block _ n fun e he => ?_).trans (Finset.sum_congr rfl fun i _ => ?_)
    · rw [w_off w 1 he hf, mul_zero]
    · rw [w_on w 1 rfl hf]
      exact congrArg (· * _) (y_at L x (n := n) (i := i) (f := ⟨32 * n.val + i.val, by omega⟩) rfl hg)
  · refine (sum_block _ n fun e he => ?_).trans (Finset.sum_congr rfl fun i _ => ?_)
    · rw [w_off w 2 he hf, mul_zero]
    · rw [w_on w 2 rfl hf]
      exact congrArg (fun q => _ * q * _) (z_at L x (n := n) (i := i) (f := ⟨32 * n.val + i.val, by omega⟩) rfl hg)

/-- The kernel's regrouping is the reference's on finite `x` and last weight. -/
theorem kv_eq (hx : ∀ i, ∃ a : ℝ, x i = (a : EReal)) (hw : ∀ n i o, ∃ a : ℝ, w (ix4 n 2 i o) = (a : EReal)) : kv L x w B n g o = rv L x w B n g o :=
  regroup (fun i => x (ix3 n g i)) (fun i => w (ix4 n 0 i o)) (fun i => w (ix4 n 2 i o)) (yv L x n g) (fun i => w (ix4 n 1 i o))
    (fun i => Ideal.ofBits .f32 0x40000000#32 * zv L x n g i) (B (ix2 n o)) (fun _ => hx _) (fun _ => hw _ _ _)
end

section
variable (V : Dev nD → Valuation τ sig (Elt Ideal)) (m : (ℓ : Loc nD τ sig) → Buf (Elt Ideal) ℓ) (c : Dev nD)

theorem outV_at (n : Fin 4) (g : Fin 10000) (o : Fin 32) : outV V c (ix3 n g o) = outF V c (ix2 g (⟨32 * n.val + o.val, by omega⟩ : Fin 128)) := by
  pointwise [outV]
  exact congrArg (fun q => outF V c (ix2 g q)) (Fin.ext (by show n.val * 32 + o.val = 32 * n.val + o.val; omega))

theorem out_at (n : Fin 4) (g : Fin 10000) (o : Fin 32) : outV (V₀ m) c (ix3 n g o)
    = kv (m ((c : Thread nD τ).loc main_arg1)) (m ((c : Thread nD τ).loc main_arg0)) (m ((c : Thread nD τ).loc main_arg2)) (m ((c : Thread nD τ).loc main_arg3)) n g o := by
  rw [outV_at, outF_at (V₀ m) c _ ⟨g.val / 1280, by omega⟩ ⟨g.val % 1280, by omega⟩ ⟨32 * n.val + o.val, by omega⟩ (by show g.val = g.val / 1280 * 1280 + g.val % 1280; omega) rfl,
    aL_eq, aX_eq, aW_eq, aB_eq]
  exact Ov_at _ _ _ _ rfl (by show g.val = 1280 * (g.val / 1280) + g.val % 1280; omega)
end

end Cert.KernelIdeal.Hand
end
-- ==== Proof.Ref.lean ====
module

public import proofs.«01_k».proof.Proof.Answer
public import proofs.«01_k».proof.Proof.Gen.ReferenceIdeal.Run
public import Idealize.ShloMosaic.Lib.Pointwise

@[expose] public section

set_option maxRecDepth 16384

noncomputable section

namespace Cert.ReferenceIdeal.Hand

open Idealize.ShloMosaic Idealize.ShloMosaic.TcCoe Idealize.ShloMosaic.Pipeline
open Idealize.SL Idealize.SL.RA Idealize.SL.BI Idealize.SL.Sem
open scoped Idealize.SL.BI
open Idealize.SL.BI.BIBase
open Cert.ReferenceIdeal Cert.ReferenceIdeal.Gen

section
variable (L : FVec Ideal S10000x10000 .f32) (x : FVec Ideal S4x10000x32 .f32) (w : FVec Ideal S4x3x32x32 .f32) (B : FVec Ideal S4x32 .f32)

/-- One application of `L` as the reference writes it. -/
def hop : FVec Ideal S4x10000x32 .f32 := transpose S4x10000x32 [1, 0, 2] (shapeCast S10000x4x32 (Host.dotGeneral dot_S10000x10000_S10000x128_S10000x128_1_0_0_1_n_n none L (shapeCast S10000x128 (transpose S10000x4x32 [1, 0, 2] x transposes_S4x10000x32_S10000x4x32_1_0_2) shapeCasts_S10000x4x32_S10000x128)) shapeCasts_S10000x128_S10000x4x32) transposes_S10000x4x32_S4x10000x32_1_0_2

theorem hop_at (n : Fin 4) (g : Fin 10000) (i : Fin 32) : hop L x (ix3 n g i) = ∑ h : Fin 10000, L (ix2 g h) * x (ix3 n h i) := by
  pointwise [hop]

/-- Weight 0. -/
def wt0 : FVec Ideal S4x32x32 .f32 := shapeCast S4x32x32 (extractStridedSlice S4x1x32x32 ![0, 0, 0, 0] w slices_S4x3x32x32_S4x1x32x32_0_0_0_0) shapeCasts_S4x1x32x32_S4x32x32
theorem wt0_at (n : Fin 4) (i o : Fin 32) : wt0 w (ix3 n i o) = w (ix4 n 0 i o) := by pointwise [wt0]

/-- Weight 1. -/
def wt1 : FVec Ideal S4x32x32 .f32 := shapeCast S4x32x32 (extractStridedSlice S4x1x32x32 ![0, 1, 0, 0] w slices_S4x3x32x32_S4x1x32x32_0_1_0_0) shapeCasts_S4x1x32x32_S4x32x32
theorem wt1_at (n : Fin 4) (i o : Fin 32) : wt1 w (ix3 n i o) = w (ix4 n 1 i o) := by pointwise [wt1]

/-- Weight 2. -/
def wt2 : FVec Ideal S4x32x32 .f32 := shapeCast S4x32x32 (extractStridedSlice S4x1x32x32 ![0, 2, 0, 0] w slices_S4x3x32x32_S4x1x32x32_0_2_0_0) shapeCasts_S4x1x32x32_S4x32x32
theorem wt2_at (n : Fin 4) (i o : Fin 32) : wt2 w (ix3 n i o) = w (ix4 n 2 i o) := by pointwise [wt2]

/-- The reference's result as its operations compose. -/
def rterm : FVec Ideal S4x10000x32 .f32 := addf (addf (addf (Host.dotGeneral dot_S4x10000x32_S4x32x32_S4x10000x32_2_1_1_2_0_0 none x (wt0 w)) (Host.dotGeneral dot_S4x10000x32_S4x32x32_S4x10000x32_2_1_1_2_0_0 none (hop L x) (wt1 w))) (Host.dotGeneral dot_S4x10000x32_S4x32x32_S4x10000x32_2_1_1_2_0_0 none (subf (mulf (broadcastInDim S4x10000x32 ![] bcast_S_S4x10000x32 (constant S_ .f32 0x40000000#32)) (hop L (hop L x))) x) (wt2 w))) (broadcastInDim S4x10000x32 ![0, 1, 2] bcast_S4x1x32_S4x10000x32_0_1_2 (broadcastInDim S4x1x32 ![0, 2] bcast_S4x32_S4x1x32_0_2 B))

theorem rterm_at (n : Fin 4) (g : Fin 10000) (o : Fin 32) : rterm L x w B (ix3 n g o) = KernelIdeal.Hand.rv L x w B n g o := by
  have two : ∀ a : EReal, (FloatOps.mulf (F := Ideal) (φ := .f32) (Ideal.ofBits .f32 0x40000000#32) a) = Ideal.ofBits .f32 0x40000000#32 * a := fun _ => rfl
  pointwise [rterm, hop_at, wt0_at, wt1_at, wt2_at, KernelIdeal.Hand.rv, KernelIdeal.Hand.zv, KernelIdeal.Hand.yv]
end

end Cert.ReferenceIdeal.Hand
end
-- ==== Proof.lean ====
/- The proof of the certificate's claim. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.FrameRun
public import proofs.«01_k».proof.Proof.BitsFrameRun
public import proofs.«01_k».proof.Proof.Answer
public import proofs.«01_k».proof.Proof.Ref
public import Idealize.ShloMosaic.Adequacy
public import Idealize.ShloMosaic.Init
public import Idealize.ShloMosaic.Lib.Claim
public import Idealize.ShloMosaic.Lib.KernelVsHost

@[expose] public section

noncomputable section

namespace Cert.Proof

open Idealize.ShloMosaic Idealize.SL.Sem

/-- The side conditions of the precondition's own operations. -/
theorem facts_finite : Cert.Pre_finite.Facts where
  bcast_S_S4x10000x32 := by decide
  slices_S4x3x32x32_S4x1x32x32_0_2_0_0 := by decide
  shapeCasts_S4x1x32x32_S4x32x32 := by decide
  bcast_S_S4x32x32 := by decide

/-- The kernel's frame. -/
theorem frame_p : Cert.quiescent_Kernel := fun m ρ _ => Cert.Kernel.Hand.frame m ρ

/-- The ideal kernel's frame. -/
theorem frame_pi : Cert.quiescent_KernelIdeal := fun m ρ _ => Cert.KernelIdeal.Hand.frame m ρ

/-- The reference's frame: its run leaves its arguments as they were, and it has no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- A value whose magnitude is below infinity is a real number. -/
theorem real_of_finite (a : Ideal .f32)
    (h : FloatOps.cmpf .olt (FloatOps.hostAbsf a) (FloatOps.ofBits (F := Ideal) .f32 0x7F800000#32) = 1#1) : ∃ r : ℝ, a = (r : EReal) := by
  rw [← Ideal.xori_weird_eq_hostAbsf_olt_inf] at h
  have hw : FloatOps.weird a = BitVec.ofBool (decide ((a : EReal) = ⊤ ∨ (a : EReal) = ⊥)) := rfl
  by_cases ha : (a : EReal) = ⊤ ∨ (a : EReal) = ⊥
  · rw [hw, decide_eq_true ha] at h
    exact absurd h (by decide)
  · push Not at ha
    exact ⟨EReal.toReal a, (EReal.coe_toReal ha.1 ha.2).symm⟩

attribute [local instance] facts_finite

open Cert.Pre_finite in
/-- What the precondition says: the node features and the last of the three weights are real numbers. -/
theorem finite_at (x : FVec Ideal S4x10000x32 .f32) (L : FVec Ideal S10000x10000 .f32) (w : FVec Ideal S4x3x32x32 .f32) (B : FVec Ideal S4x32 .f32)
    (h : (fn x L w B).1 = (fun _ => 1#1) ∧ (fn x L w B).2 = (fun _ => 1#1)) :
    (∀ i, ∃ r : ℝ, x i = (r : EReal)) ∧ ∀ (n : Fin 4) (i o : Fin 32), ∃ r : ℝ, w (ix4 n 2 i o) = (r : EReal) := by
  have hw : ∀ (n : Fin 4) (i o : Fin 32),
      shapeCast S4x32x32 (extractStridedSlice S4x1x32x32 ![0, 2, 0, 0] w Facts.slices_S4x3x32x32_S4x1x32x32_0_2_0_0) Facts.shapeCasts_S4x1x32x32_S4x32x32 (ix3 n i o)
        = w (ix4 n 2 i o) := by
    intro n i o
    pointwise
  exact ⟨fun i => real_of_finite _ (congrFun h.1 i), fun n i o => (hw n i o) ▸ real_of_finite _ (congrFun h.2 (ix3 n i o))⟩

/-- The kernel's result is the reference's term of the same arguments. -/
theorem same (m : (ℓ : Loc Cert.KernelIdeal.nD Cert.KernelIdeal.τ Cert.KernelIdeal.sig) → Buf (Elt Ideal) ℓ) (h : Cert.Pre_KernelIdeal_finite m)
    (c : Dev Cert.KernelIdeal.nD) :
    Cert.ReferenceIdeal.Hand.rterm (m ((c.tc : Thread Cert.KernelIdeal.nD Cert.KernelIdeal.τ).loc Cert.KernelIdeal.main_arg1))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.KernelIdeal.Hand.outV (Cert.KernelIdeal.Hand.V₀ m) c := by
  obtain ⟨hx, hw⟩ := finite_at _ _ _ _ (h c)
  funext j
  rw [eq_ix3 j]
  exact (Cert.ReferenceIdeal.Hand.rterm_at _ _ _ _ (j 0) (j 1) (j 2)).trans
    ((Cert.KernelIdeal.Hand.kv_eq _ _ _ _ hx hw).symm.trans (Cert.KernelIdeal.Hand.out_at m c (j 0) (j 1) (j 2)).symm)

/-- The idealized kernel computes what the reference computes. -/
theorem algebraic : Cert.algebraic_KernelIdeal_ReferenceIdeal_pre_finite := by
  intro m g m' g' hpre harg
  refine ⟨fun c => Cert.KernelIdeal.Hand.outV (Cert.KernelIdeal.Hand.V₀ m) c, Cert.KernelIdeal.Hand.value m g, ?_⟩
  refine (θ_run Cert.ReferenceIdeal.defs _ _).mono (fun r h c => ⟨(h c).1.trans ?_, (h c).2⟩) (Cert.ReferenceIdeal.Value.run (F := Ideal) m' g')
  obtain ⟨h0, h1, h2, h3⟩ := harg c
  rw [h0, h1, h2, h3]
  exact same m hpre c

theorem claim : Cert.Claim :=
  ⟨Cert.Kernel.Gen.facts, Cert.KernelIdeal.Gen.facts, Cert.ReferenceIdeal.Gen.facts, facts_finite, frame_p, frame_pi,
    fun m ρ _ => frame_pi m ρ trivial, frame_ri, fun m ρ _ => frame_ri m ρ trivial, trivial, algebraic⟩

end Cert.Proof

end
